-- ==== Defs.lean ====
def Pre_Kernel [hPre_ids_in_vocabulary : Cert.Pre_ids_in_vocabulary.Facts] (m : (ℓ : Loc Cert.Kernel.nD Cert.Kernel.τ Cert.Kernel.sig) → Buf (Elt Bits) ℓ) : Prop :=
  ∀ c : Dev Cert.Kernel.nD,
    (Cert.Pre_ids_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_ids_in_vocabulary : Cert.Pre_ids_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocabulary [hPre_ids_in_vocabulary : Cert.Pre_ids_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_ids_in_vocabulary : Cert.Pre_ids_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_ids_in_vocabulary : Cert.Pre_ids_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ids_in_vocabulary [hReferenceIdeal : Cert.ReferenceIdeal.Facts] [hPre_ids_in_vocabulary : Cert.Pre_ids_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_vocabulary : Cert.Pre_ids_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ids_in_vocabulary : Cert.Pre_ids_in_vocabulary.Facts),
    quiescent_Kernel (hKernel := hKernel) (hPre_ids_in_vocabulary := hPre_ids_in_vocabulary)
    ∧ quiescent_KernelIdeal (hKernelIdeal := hKernelIdeal) (hPre_ids_in_vocabulary := hPre_ids_in_vocabulary)
    ∧ quiescent_ReferenceIdeal (hReferenceIdeal := hReferenceIdeal)
    ∧ quiescent_ReferenceIdeal_pre_ids_in_vocabulary (hReferenceIdeal := hReferenceIdeal) (hPre_ids_in_vocabulary := hPre_ids_in_vocabulary)
    ∧ preserves_Kernel_KernelIdeal
    ∧ algebraic_KernelIdeal_ReferenceIdeal (hKernelIdeal := hKernelIdeal) (hReferenceIdeal := hReferenceIdeal) (hPre_ids_in_vocabulary := hPre_ids_in_vocabulary)
-- ==== Pre_ids_in_vocabulary.lean ====
abbrev S16x1500x128 : Shape := ⟨3, ![16, 1500, 128]⟩
abbrev S16x1500 : Shape := ⟨2, ![16, 1500]⟩
abbrev S4 : Shape := ⟨1, ![4]⟩
abbrev S1 : Shape := ⟨1, ![1]⟩
abbrev S100000x1024 : Shape := ⟨2, ![100000, 1024]⟩
abbrev S128x1024 : Shape := ⟨2, ![128, 1024]⟩
abbrev S_ : Shape := ⟨0, ![]⟩

class Facts : Prop where
  bcast_S_S4 : S_.BroadcastsInDim S4 (![] : Fin 0 → Fin S4.rank)
  bcast_S_S1 : S_.BroadcastsInDim S1 (![] : Fin 0 → Fin S1.rank)
  reducesTo_S4_S_d0 : S4.ReducesTo [0] S_
  h_S_ : 0 < S_.numel
  reducesTo_S1_S_d0 : S1.ReducesTo [0] S_

variable [Facts]

def fn {F : FTy → Type} [FloatOps F] (main_arg0 : FVec F S16x1500x128 .f32) (main_arg1 : FVec F S16x1500 .f32) (main_arg2 : IVec S4 32) (main_arg3 : IVec S1 32) (main_arg4 : FVec F S100000x1024 .f32) (main_arg5 : FVec F S128x1024 .f32) : IVec S_ 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 100000#32
  let main_v2 : IVec S4 32 := broadcastInDim S4 ![] bcast_S_S4 main_c_0
  let main_v3 : IVec S4 1 := cmpi .slt main_arg2 main_v2
  let main_v4 : IVec S4 1 := andi main_v1 main_v3
  let main_c_1 : IVec S_ 32 := constantI S_ 32 0#32
  let main_v5 : IVec S1 32 := broadcastInDim S1 ![] bcast_S_S1 main_c_1
  let main_v6 : IVec S1 1 := cmpi .sge main_arg3 main_v5
  let main_c_2 : IVec S_ 32 := constantI S_ 32 100000#32
  let main_v7 : IVec S1 32 := broadcastInDim S1 ![] bcast_S_S1 main_c_2
  let main_v8 : IVec S1 1 := cmpi .slt main_arg3 main_v7
  let main_v9 : IVec S1 1 := andi main_v6 main_v8
  let main_c_3 : IVec S_ 1 := constantI S_ 1 1#1
  let main_v10 : IVec S_ 1 := (fun x v => Host.reduce IntOp.andi x v reducesTo_S4_S_d0 h_S_) main_v4 main_c_3
  let main_c_4 : IVec S_ 1 := constantI S_ 1 1#1
  let main_v11 : IVec S_ 1 := (fun x v => Host.reduce IntOp.andi x v reducesTo_S1_S_d0 h_S_) main_v9 main_c_4
  let main_v12 : IVec S_ 1 := andi main_v10 main_v11
  main_v12
-- ==== Kernel.lean ====
abbrev S16x1500x128 : Shape := ⟨3, ![16, 1500, 128]⟩
abbrev S16x1500 : Shape := ⟨2, ![16, 1500]⟩
abbrev S4 : Shape := ⟨1, ![4]⟩
abbrev S1 : Shape := ⟨1, ![1]⟩
abbrev S100000x1024 : Shape := ⟨2, ![100000, 1024]⟩
abbrev S128x1024 : Shape := ⟨2, ![128, 1024]⟩
abbrev S16x1x1500 : Shape := ⟨3, ![16, 1, 1500]⟩
abbrev S16x1505x1024 : Shape := ⟨3, ![16, 1505, 1024]⟩
abbrev S1x1x1500 : Shape := ⟨3, ![1, 1, 1500]⟩
abbrev S1504x128 : Shape := ⟨2, ![1504, 128]⟩
abbrev S2x1512x1024 : Shape := ⟨3, ![2, 1512, 1024]⟩
abbrev S8x1024 : Shape := ⟨2, ![8, 1024]⟩
abbrev S2x4 : Shape := ⟨2, ![2, 4]⟩
abbrev S1x1 : Shape := ⟨2, ![1, 1]⟩
abbrev S_ : Shape := ⟨0, ![]⟩
abbrev S1x1024 : Shape := ⟨2, ![1, 1024]⟩
abbrev S4x128 : Shape := ⟨2, ![4, 128]⟩
abbrev S1x1504x1024 : Shape := ⟨3, ![1, 1504, 1024]⟩
abbrev S1504x1024 : Shape := ⟨2, ![1504, 1024]⟩
abbrev S1x1x1024 : Shape := ⟨3, ![1, 1, 1024]⟩
abbrev S1x1500x128 : Shape := ⟨3, ![1, 1500, 128]⟩
abbrev S1500x128 : Shape := ⟨2, ![1500, 128]⟩
abbrev S1500 : Shape := ⟨1, ![1500]⟩
abbrev S1500x1 : Shape := ⟨2, ![1500, 1]⟩
abbrev S4x1024 : Shape := ⟨2, ![4, 1024]⟩
abbrev S1x4x1024 : Shape := ⟨3, ![1, 4, 1024]⟩

abbrev nBuf : Space → Nat
  | .hbm => 6
  | .vmem => 7
  | .smem => 2
  | _ => 0

abbrev bufTy : (tb : Table) → Fin (tcTables nBuf tb) → BufTy
  | .hbm, ⟨0, _⟩ => ⟨S16x1500x128, .f32⟩
  | .hbm, ⟨1, _⟩ => ⟨S16x1500, .f32⟩
  | .hbm, ⟨2, _⟩ => ⟨S100000x1024, .f32⟩
  | .hbm, ⟨3, _⟩ => ⟨S128x1024, .f32⟩
  | .hbm, ⟨4, _⟩ => ⟨S16x1x1500, .f32⟩
  | .hbm, ⟨5, _⟩ => ⟨S16x1505x1024, .f32⟩
  | .local _ .vmem, ⟨0, _⟩ => ⟨S1x1x1500, .f32⟩
  | .local _ .vmem, ⟨1, _⟩ => ⟨S1x1x1500, .f32⟩
  | .local _ .vmem, ⟨2, _⟩ => ⟨S128x1024, .f32⟩
  | .local _ .vmem, ⟨3, _⟩ => ⟨S1504x128, .f32⟩
  | .local _ .vmem, ⟨4, _⟩ => ⟨S2x1512x1024, .f32⟩
  | .local _ .vmem, ⟨5, _⟩ => ⟨S8x1024, .f32⟩
  | .local _ .vmem, ⟨6, _⟩ => ⟨S16x1500x128, .f32⟩
  | .local _ .smem, ⟨0, _⟩ => ⟨S4, .i32⟩
  | .local _ .smem, ⟨1, _⟩ => ⟨S1, .i32⟩
  | _, _ => ⟨S16x1500x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (v52 : BitVec 32) : Fin 2 → Nat :=
  let c0_i32_36 : BitVec 32 := 0#32
  ![v52.toNat, 0]

def k0_off2 (v57 : BitVec 32) : Fin 2 → Nat :=
  let c0_i32_41 : BitVec 32 := 0#32
  ![v57.toNat, 0]

def k0_off3 (v62 : BitVec 32) : Fin 2 → Nat :=
  let c0_i32_46 : BitVec 32 := 0#32
  ![v62.toNat, 0]

def k0_off4 (v67 : BitVec 32) : Fin 2 → Nat :=
  let c0_i32_51 : BitVec 32 := 0#32
  ![v67.toNat, 0]

def k0_off5 (v72 : BitVec 32) : Fin 2 → Nat :=
  let c0_i32_56 : BitVec 32 := 0#32
  ![v72.toNat, 0]

def k0_chk5 (i : grid0.Coords) (v72 : BitVec 32) : Prop :=
  (∀ (k0_h1 : k0_cond1 i = 1#1), ∀ a, (k0_off5 v72) a + S1x1024.size a ≤ S100000x1024.size a)
theorem k0_off5_inb : ∀ (i : grid0.Coords) (v72 : BitVec 32) (k0_hw5 : k0_chk5 i v72), ∀ (k0_h1 : k0_cond1 i = 1#1), ∀ a, (k0_off5 v72) a + S1x1024.size a ≤ S100000x1024.size a := fun i v72 k0_hw5 k0_h1 => k0_hw5 k0_h1

def k0_off6 (v52 : BitVec 32) : Fin 2 → Nat :=
  let c0_i32_64 : BitVec 32 := 0#32
  ![v52.toNat, 0]

def k0_chk1 (i : grid0.Coords) (v52 : BitVec 32) : Prop :=
  (∀ (k0_h1 : k0_cond1 i = 1#1), ∀ a, (k0_off1 v52) a + S1x1024.size a ≤ S100000x1024.size a) ∧
  (∀ (k0_h1 : k0_cond1 i = 1#1), ∀ a, (k0_off6 v52) a + S1x1024.size a ≤ S100000x1024.size a)
theorem k0_off1_inb : ∀ (i : grid0.Coords) (v52 : BitVec 32) (k0_hw1 : k0_chk1 i v52), ∀ (k0_h1 : k0_cond1 i = 1#1), ∀ a, (k0_off1 v52) a + S1x1024.size a ≤ S100000x1024.size a := fun i v52 k0_hw1 k0_h1 => k0_hw1.1 k0_h1
theorem k0_off6_inb : ∀ (i : grid0.Coords) (v52 : BitVec 32) (k0_hw1 : k0_chk1 i v52), ∀ (k0_h1 : k0_cond1 i = 1#1), ∀ a, (k0_off6 v52) a + S1x1024.size a ≤ S100000x1024.size a := fun i v52 k0_hw1 k0_h1 => k0_hw1.2 k0_h1

def k0_off7 (v57 : BitVec 32) : Fin 2 → Nat :=
  let c0_i32_69 : BitVec 32 := 0#32
  ![v57.toNat, 0]

def k0_chk2 (i : grid0.Coords) (v57 : BitVec 32) : Prop :=
  (∀ (k0_h1 : k0_cond1 i = 1#1), ∀ a, (k0_off2 v57) a + S1x1024.size a ≤ S100000x1024.size a) ∧
  (∀ (k0_h1 : k0_cond1 i = 1#1), ∀ a, (k0_off7 v57) a + S1x1024.size a ≤ S100000x1024.size a)
theorem k0_off2_inb : ∀ (i : grid0.Coords) (v57 : BitVec 32) (k0_hw2 : k0_chk2 i v57), ∀ (k0_h1 : k0_cond1 i = 1#1), ∀ a, (k0_off2 v57) a + S1x1024.size a ≤ S100000x1024.size a := fun i v57 k0_hw2 k0_h1 => k0_hw2.1 k0_h1
theorem k0_off7_inb : ∀ (i : grid0.Coords) (v57 : BitVec 32) (k0_hw2 : k0_chk2 i v57), ∀ (k0_h1 : k0_cond1 i = 1#1), ∀ a, (k0_off7 v57) a + S1x1024.size a ≤ S100000x1024.size a := fun i v57 k0_hw2 k0_h1 => k0_hw2.2 k0_h1

def k0_off8 (v62 : BitVec 32) : Fin 2 → Nat :=
  let c0_i32_74 : BitVec 32 := 0#32
  ![v62.toNat, 0]

def k0_chk3 (i : grid0.Coords) (v62 : BitVec 32) : Prop :=
  (∀ (k0_h1 : k0_cond1 i = 1#1), ∀ a, (k0_off3 v62) a + S1x1024.size a ≤ S100000x1024.size a) ∧
  (∀ (k0_h1 : k0_cond1 i = 1#1), ∀ a, (k0_off8 v62) a + S1x1024.size a ≤ S100000x1024.size a)
theorem k0_off3_inb : ∀ (i : grid0.Coords) (v62 : BitVec 32) (k0_hw3 : k0_chk3 i v62), ∀ (k0_h1 : k0_cond1 i = 1#1), ∀ a, (k0_off3 v62) a + S1x1024.size a ≤ S100000x1024.size a := fun i v62 k0_hw3 k0_h1 => k0_hw3.1 k0_h1
theorem k0_off8_inb : ∀ (i : grid0.Coords) (v62 : BitVec 32) (k0_hw3 : k0_chk3 i v62), ∀ (k0_h1 : k0_cond1 i = 1#1), ∀ a, (k0_off8 v62) a + S1x1024.size a ≤ S100000x1024.size a := fun i v62 k0_hw3 k0_h1 => k0_hw3.2 k0_h1

def k0_off9 (v67 : BitVec 32) : Fin 2 → Nat :=
  let c0_i32_79 : BitVec 32 := 0#32
  ![v67.toNat, 0]

def k0_chk4 (i : grid0.Coords) (v67 : BitVec 32) : Prop :=
  (∀ (k0_h1 : k0_cond1 i = 1#1), ∀ a, (k0_off4 v67) a + S1x1024.size a ≤ S100000x1024.size a) ∧
  (∀ (k0_h1 : k0_cond1 i = 1#1), ∀ a, (k0_off9 v67) a + S1x1024.size a ≤ S100000x1024.size a)
theorem k0_off4_inb : ∀ (i : grid0.Coords) (v67 : BitVec 32) (k0_hw4 : k0_chk4 i v67), ∀ (k0_h1 : k0_cond1 i = 1#1), ∀ a, (k0_off4 v67) a + S1x1024.size a ≤ S100000x1024.size a := fun i v67 k0_hw4 k0_h1 => k0_hw4.1 k0_h1
theorem k0_off9_inb : ∀ (i : grid0.Coords) (v67 : BitVec 32) (k0_hw4 : k0_chk4 i v67), ∀ (k0_h1 : k0_cond1 i = 1#1), ∀ a, (k0_off9 v67) a + S1x1024.size a ≤ S100000x1024.size a := fun i v67 k0_hw4 k0_h1 => k0_hw4.2 k0_h1

def k0_cond2 (i : grid0.Coords) : BitVec 1 :=
  let arg0 : BitVec 32 := BitVec.ofNat 32 (i 0).val
  let c2_i32_1 : BitVec 32 := 2#32
  let v4 : BitVec 1 := Scalar.cmpi .sge arg0 c2_i32_1
  let v5 : BitVec 32 := Scalar.extui v4
  let c0_i32_2 : BitVec 32 := 0#32
  let v6 : BitVec 1 := Scalar.cmpi .ne v5 c0_i32_2
  v6

def k0_off10 (i : grid0.Coords) : Fin 2 → Nat :=
  let arg0 : BitVec 32 := BitVec.ofNat 32 (i 0).val
  let c2_i32 : BitVec 32 := 2#32
  let v0 : BitVec 32 := Scalar.remsi arg0 c2_i32
  let c0_i32_30 : BitVec 32 := 0#32
  ![v0.toNat, 0]
def k0_off11 (i : grid0.Coords) : Fin 3 → Nat :=
  let arg0 : BitVec 32 := BitVec.ofNat 32 (i 0).val
  let c0_i32_31 : BitVec 32 := 0#32
  let c0_i32_32 : BitVec 32 := 0#32
  ![arg0.toNat, 0, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let c0_i32_33 : BitVec 32 := 0#32
  let c0_i32_34 : BitVec 32 := 0#32
  ![v0.toNat, 0, 0]
def k0_off13 (i : grid0.Coords) : Fin 2 → Nat :=
  let arg0 : BitVec 32 := BitVec.ofNat 32 (i 0).val
  let c2_i32 : BitVec 32 := 2#32
  let v0 : BitVec 32 := Scalar.remsi arg0 c2_i32
  let c1_i32_35 : BitVec 32 := 1#32
  ![v0.toNat, 1]
def k0_off14 (i : grid0.Coords) : Fin 3 → Nat :=
  let arg0 : BitVec 32 := BitVec.ofNat 32 (i 0).val
  let c1504_i32_36 : BitVec 32 := 1504#32
  let c0_i32_37 : BitVec 32 := 0#32
  ![arg0.toNat, 1504, 0]
def k0_off15 (i : grid0.Coords) : Fin 3 → Nat :=
  let arg0 : BitVec 32 := BitVec.ofNat 32 (i 0).val
  let c2_i32 : BitVec 32 := 2#32
  let v0 : BitVec 32 := Scalar.remsi arg0 c2_i32
  let c1504_i32_38 : BitVec 32 := 1504#32
  let c0_i32_39 : BitVec 32 := 0#32
  ![v0.toNat, 1504, 0]
def k0_off16 (i : grid0.Coords) : Fin 3 → Nat :=
  let arg0 : BitVec 32 := BitVec.ofNat 32 (i 0).val
  let v7 : Index := Scalar.indexCast arg0
  let c0 : Index := 0#32
  let c0_3 : Index := 0#32
  ![v7.toNat, 0, 0]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v21 : Index := Scalar.indexCast v0
  let c0_12 : Index := 0#32
  let c0_13 : Index := 0#32
  ![v21.toNat, 0, 0]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v26 : Index := Scalar.indexCast v0
  let c0_16 : Index := 0#32
  let c0_17 : Index := 0#32
  ![v26.toNat, 0, 0]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v31 : Index := Scalar.indexCast v0
  let c1504 : Index := 1504#32
  let c0_20 : Index := 0#32
  ![v31.toNat, 1504, 0]
def k0_off20 (i : grid0.Coords) : Fin 2 → Nat :=
  let arg0 : BitVec 32 := BitVec.ofNat 32 (i 0).val
  let c2_i32 : BitVec 32 := 2#32
  let v0 : BitVec 32 := Scalar.remsi arg0 c2_i32
  let c0_i32_21 : BitVec 32 := 0#32
  ![v0.toNat, 0]
def k0_off21 (i : grid0.Coords) : Fin 3 → Nat :=
  let arg0 : BitVec 32 := BitVec.ofNat 32 (i 0).val
  let c0_i32_22 : BitVec 32 := 0#32
  let c0_i32_23 : BitVec 32 := 0#32
  ![arg0.toNat, 0, 0]
def k0_off22 (i : grid0.Coords) : Fin 3 → Nat :=
  let arg0 : BitVec 32 := BitVec.ofNat 32 (i 0).val
  let c2_i32 : BitVec 32 := 2#32
  let v0 : BitVec 32 := Scalar.remsi arg0 c2_i32
  let c0_i32_24 : BitVec 32 := 0#32
  let c0_i32_25 : BitVec 32 := 0#32
  ![v0.toNat, 0, 0]
def k0_off23 (i : grid0.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k0_off24 (i : grid0.Coords) : Fin 3 → Nat :=
  let arg0 : BitVec 32 := BitVec.ofNat 32 (i 0).val
  let c1504_i32 : BitVec 32 := 1504#32
  let c0_i32_26 : BitVec 32 := 0#32
  ![arg0.toNat, 1504, 0]
def k0_off25 (i : grid0.Coords) : Fin 3 → Nat :=
  let arg0 : BitVec 32 := BitVec.ofNat 32 (i 0).val
  let c2_i32 : BitVec 32 := 2#32
  let v0 : BitVec 32 := Scalar.remsi arg0 c2_i32
  let c1504_i32_27 : BitVec 32 := 1504#32
  let c0_i32_28 : BitVec 32 := 0#32
  ![v0.toNat, 1504, 0]
def k0_cond3 (i : grid0.Coords) : BitVec 1 :=
  let arg0 : BitVec 32 := BitVec.ofNat 32 (i 0).val
  let c15_i32 : BitVec 32 := 15#32
  let v47 : BitVec 1 := Scalar.cmpi .eq arg0 c15_i32
  let v48 : BitVec 32 := Scalar.extui v47
  let c0_i32_29 : BitVec 32 := 0#32
  let v49 : BitVec 1 := Scalar.cmpi .ne v48 c0_i32_29
  v49

def k0_off26 (i : grid0.Coords) : Fin 2 → Nat :=
  let c1_i32_30 : BitVec 32 := 1#32
  let arg0 : BitVec 32 := BitVec.ofNat 32 (i 0).val
  let c2_i32 : BitVec 32 := 2#32
  let v0 : BitVec 32 := Scalar.remsi arg0 c2_i32
  let v50 : BitVec 32 := Scalar.subi c1_i32_30 v0
  let c0_i32_31 : BitVec 32 := 0#32
  ![v50.toNat, 0]
def k0_off27 (i : grid0.Coords) : Fin 3 → Nat :=
  let arg0 : BitVec 32 := BitVec.ofNat 32 (i 0).val
  let c0_i32_32 : BitVec 32 := 0#32
  let c0_i32_33 : BitVec 32 := 0#32
  ![arg0.toNat, 0, 0]
def k0_off28 (i : grid0.Coords) : Fin 3 → Nat :=
  let c1_i32_30 : BitVec 32 := 1#32
  let arg0 : BitVec 32 := BitVec.ofNat 32 (i 0).val
  let c2_i32 : BitVec 32 := 2#32
  let v0 : BitVec 32 := Scalar.remsi arg0 c2_i32
  let v50 : BitVec 32 := Scalar.subi c1_i32_30 v0
  let c0_i32_34 : BitVec 32 := 0#32
  let c0_i32_35 : BitVec 32 := 0#32
  ![v50.toNat, 0, 0]
def k0_off29 (i : grid0.Coords) : Fin 2 → Nat :=
  let c1_i32_30 : BitVec 32 := 1#32
  let arg0 : BitVec 32 := BitVec.ofNat 32 (i 0).val
  let c2_i32 : BitVec 32 := 2#32
  let v0 : BitVec 32 := Scalar.remsi arg0 c2_i32
  let v50 : BitVec 32 := Scalar.subi c1_i32_30 v0
  let c1_i32_36 : BitVec 32 := 1#32
  ![v50.toNat, 1]
def k0_off30 (i : grid0.Coords) : Fin 3 → Nat :=
  let arg0 : BitVec 32 := BitVec.ofNat 32 (i 0).val
  let c1504_i32_37 : BitVec 32 := 1504#32
  let c0_i32_38 : BitVec 32 := 0#32
  ![arg0.toNat, 1504, 0]
def k0_off31 (i : grid0.Coords) : Fin 3 → Nat :=
  let c1_i32_30 : BitVec 32 := 1#32
  let arg0 : BitVec 32 := BitVec.ofNat 32 (i 0).val
  let c2_i32 : BitVec 32 := 2#32
  let v0 : BitVec 32 := Scalar.remsi arg0 c2_i32
  let v50 : BitVec 32 := Scalar.subi c1_i32_30 v0
  let c1504_i32_39 : BitVec 32 := 1504#32
  let c0_i32_40 : BitVec 32 := 0#32
  ![v50.toNat, 1504, 0]
def k0_off32 (i : grid0.Coords) : Fin 2 → Nat :=
  let arg0 : BitVec 32 := BitVec.ofNat 32 (i 0).val
  let c2_i32 : BitVec 32 := 2#32
  let v0 : BitVec 32 := Scalar.remsi arg0 c2_i32
  let c0_i32_41 : BitVec 32 := 0#32
  ![v0.toNat, 0]
def k0_off33 (i : grid0.Coords) : Fin 3 → Nat :=
  let arg0 : BitVec 32 := BitVec.ofNat 32 (i 0).val
  let c2_i32 : BitVec 32 := 2#32
  let v0 : BitVec 32 := Scalar.remsi arg0 c2_i32
  let c0_i32_44 : BitVec 32 := 0#32
  let c0_i32_45 : BitVec 32 := 0#32
  ![v0.toNat, 0, 0]
def k0_off34 (i : grid0.Coords) : Fin 2 → Nat :=
  let arg0 : BitVec 32 := BitVec.ofNat 32 (i 0).val
  let c2_i32 : BitVec 32 := 2#32
  let v0 : BitVec 32 := Scalar.remsi arg0 c2_i32
  let c1_i32_46 : BitVec 32 := 1#32
  ![v0.toNat, 1]
def k0_off35 (i : grid0.Coords) : Fin 3 → Nat :=
  let arg0 : BitVec 32 := BitVec.ofNat 32 (i 0).val
  let c2_i32 : BitVec 32 := 2#32
  let v0 : BitVec 32 := Scalar.remsi arg0 c2_i32
  let c1504_i32_49 : BitVec 32 := 1504#32
  let c0_i32_50 : BitVec 32 := 0#32
  ![v0.toNat, 1504, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S16x1500x128 : Shape := ⟨3, ![16, 1500, 128]⟩
abbrev S16x1500 : Shape := ⟨2, ![16, 1500]⟩
abbrev S4 : Shape := ⟨1, ![4]⟩
abbrev S1 : Shape := ⟨1, ![1]⟩
abbrev S100000x1024 : Shape := ⟨2, ![100000, 1024]⟩
abbrev S128x1024 : Shape := ⟨2, ![128, 1024]⟩
abbrev S16x1500x1 : Shape := ⟨3, ![16, 1500, 1]⟩
abbrev S16x1500x1024 : Shape := ⟨3, ![16, 1500, 1024]⟩
abbrev S_ : Shape := ⟨0, ![]⟩
abbrev S4x1 : Shape := ⟨2, ![4, 1]⟩
abbrev S1x1 : Shape := ⟨2, ![1, 1]⟩
abbrev S4x1024 : Shape := ⟨2, ![4, 1024]⟩
abbrev S1x1024 : Shape := ⟨2, ![1, 1024]⟩
abbrev S1x4x1024 : Shape := ⟨3, ![1, 4, 1024]⟩
abbrev S16x4x1024 : Shape := ⟨3, ![16, 4, 1024]⟩
abbrev S1x1x1024 : Shape := ⟨3, ![1, 1, 1024]⟩
abbrev S16x1x1024 : Shape := ⟨3, ![16, 1, 1024]⟩
abbrev S16x1505x1024 : Shape := ⟨3, ![16, 1505, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16x1500x128, .f32⟩
  | .hbm, ⟨1, _⟩ => ⟨S16x1500, .f32⟩
  | .hbm, ⟨2, _⟩ => ⟨S4, .i32⟩
  | .hbm, ⟨3, _⟩ => ⟨S1, .i32⟩
  | .hbm, ⟨4, _⟩ => ⟨S100000x1024, .f32⟩
  | .hbm, ⟨5, _⟩ => ⟨S128x1024, .f32⟩
  | .hbm, ⟨6, _⟩ => ⟨S16x1500x1, .f32⟩
  | .hbm, ⟨7, _⟩ => ⟨S16x1500x128, .f32⟩
  | .hbm, ⟨8, _⟩ => ⟨S16x1500x128, .f32⟩
  | .hbm, ⟨9, _⟩ => ⟨S16x1500x1024, .f32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S4, .i32⟩
  | .hbm, ⟨17, _⟩ => ⟨S4x1, .i32⟩
  | .hbm, ⟨18, _⟩ => ⟨S1, .i32⟩
  | .hbm, ⟨19, _⟩ => ⟨S_, .i32⟩
  | .hbm, ⟨20, _⟩ => ⟨S4x1, .i32⟩
  | .hbm, ⟨21, _⟩ => ⟨S4x1, .i1⟩
  | .hbm, ⟨22, _⟩ => ⟨S1x1, .i32⟩
  | .hbm, ⟨23, _⟩ => ⟨S4x1, .i32⟩
  | .hbm, ⟨24, _⟩ => ⟨S4x1, .i1⟩
  | .hbm, ⟨25, _⟩ => ⟨S4x1, .i1⟩
  | .hbm, ⟨26, _⟩ => ⟨S_, .i1⟩
  | .hbm, ⟨27, _⟩ => ⟨S4, .i1⟩
  | .hbm, ⟨28, _⟩ => ⟨S4x1024, .f32⟩
  | .hbm, ⟨29, _⟩ => ⟨S4x1024, .i1⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S_, .i32⟩
  | .hbm, ⟨34, _⟩ => ⟨S1, .i32⟩
  | .hbm, ⟨35, _⟩ => ⟨S1, .i1⟩
  | .hbm, ⟨36, _⟩ => ⟨S_, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S1x1, .i32⟩
  | .hbm, ⟨41, _⟩ => ⟨S1, .i32⟩
  | .hbm, ⟨42, _⟩ => ⟨S_, .i32⟩
  | .hbm, ⟨43, _⟩ => ⟨S1x1, .i32⟩
  | .hbm, ⟨44, _⟩ => ⟨S1x1, .i1⟩
  | .hbm, ⟨45, _⟩ => ⟨S1x1, .i32⟩
  | .hbm, ⟨46, _⟩ => ⟨S1x1, .i1⟩
  | .hbm, ⟨47, _⟩ => ⟨S1x1, .i1⟩
  | .hbm, ⟨48, _⟩ => ⟨S_, .i1⟩
  | .hbm, ⟨49, _⟩ => ⟨S1, .i1⟩
  | .hbm, ⟨50, _⟩ => ⟨S1x1024, .f32⟩
  | .hbm, ⟨51, _⟩ => ⟨S1x1024, .i1⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x4x1024, .f32⟩
  | .hbm, ⟨56, _⟩ => ⟨S16x4x1024, .f32⟩
  | .hbm, ⟨57, _⟩ => ⟨S1x1x1024, .f32⟩
  | .hbm, ⟨58, _⟩ => ⟨S16x1x1024, .f32⟩
  | .hbm, ⟨59, _⟩ => ⟨S16x1505x1024, .f32⟩
  | _, _ => ⟨S16x1500x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_c_3 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_cst : Ref sig .tc := ⟨.hbm, 52, rfl⟩
abbrev main_call1_v14 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩

abbrev nD : Nat := 1
abbrev τ : Topo := Topo.v7x

variable {F : FTy → Type} [FloatOps F]
-- ==== Proof.IRing.lean ====
/-
  The two output slots of the kernel as a write-behind ring. Step `t` packs group `t % 2` of the scratch `y` — a BIG tile
  (rows 0..1503: the start rows over the projected sounds) and a LAST tile (row 1504: the end row) — and copies the two out
  into rows 0..1503 and row 1504 of batch `t` of the result; the copies of step `t` are waited at step `t + 2`, and the last
  step drains. Here: the tiles, the pieces of the result and the cells; the resources each of them is; and the equations that
  name the operands the body spells at step `t` by the group and the batch they are.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The buffers -/

/-- The masked sounds, one batch; the two output slots; the embedding rows; all the sounds. -/
abbrev scX : Memref sig .tc .vmem S1504x128 .f32 := Memref.whole cc0_scratch0
abbrev scY : Memref sig .tc .vmem S2x1512x1024 .f32 := Memref.whole cc0_scratch1
abbrev scE : Memref sig .tc .vmem S8x1024 .f32 := Memref.whole cc0_scratch2
abbrev scA : Memref sig .tc .vmem S16x1500x128 .f32 := Memref.whole cc0_scratch3
/-- The operands left in HBM: the sounds, the embedding table, the result. -/
abbrev hbS : Memref sig .tc .hbm S16x1500x128 .f32 := Memref.whole main_arg0
abbrev hbE : Memref sig .tc .hbm S100000x1024 .f32 := Memref.whole main_arg4
abbrev hbO : Memref sig .tc .hbm S16x1505x1024 .f32 := Memref.whole main_v1
/-- The two tables in scalar memory. -/
abbrev smS : Memref sig .tc .smem S4 .i32 := Memref.whole main_arg2
abbrev smE : Memref sig .tc .smem S1 .i32 := Memref.whole main_arg3

/-- The contents of a memref's buffer on core `c`. -/
abbrev BufOf (c : Dev nD) {sp : Space} {S : Shape} {e : EltTy} (M : Memref sig .tc sp S e) : Type :=
  Buf (Elt F) (M.view.loc (c : Thread nD τ))
/-- A memref's buffer held whole. -/
abbrev ptAll (c : Dev nD) {sp : Space} {S : Shape} {e : EltTy} (M : Memref sig .tc sp S e) (f : BufOf (F := F) c M) : sProp 𝕄 :=
  M.view.loc (c : Thread nD τ) ↦{fullShare} f
/-- A memref's own elements held. -/
abbrev ptOwn (c : Dev nD) {sp : Space} {S : Shape} {e : EltTy} (M : Memref sig .tc sp S e) (f : BufOf (F := F) c M) : sProp 𝕄 :=
  M.view.loc (c : Thread nD τ) ↦[M.view.set]{fullShare} f

/-! ## Tiles, pieces, cells -/

theorem inb_tileB (g : Fin 2) : ∀ a, (![g.val, 0, 0] : Fin 3 → Nat) a + S1x1504x1024.size a ≤ S2x1512x1024.size a := by
  have := g.isLt; intro a; fin_cases a <;> simp <;> omega
theorem inb_tileL (g : Fin 2) : ∀ a, (![g.val, 1504, 0] : Fin 3 → Nat) a + S1x1x1024.size a ≤ S2x1512x1024.size a := by
  have := g.isLt; intro a; fin_cases a <;> simp <;> omega
theorem inb_pieceB (u : Fin 16) : ∀ a, (![u.val, 0, 0] : Fin 3 → Nat) a + S1x1504x1024.size a ≤ S16x1505x1024.size a := by
  have := u.isLt; intro a; fin_cases a <;> simp <;> omega
theorem inb_pieceL (u : Fin 16) : ∀ a, (![u.val, 1504, 0] : Fin 3 → Nat) a + S1x1x1024.size a ≤ S16x1505x1024.size a := by
  have := u.isLt; intro a; fin_cases a <;> simp <;> omega
theorem inb_cell (g : Fin 2) (j : Fin 4) : ∀ a, (![g.val, j.val] : Fin 2 → Nat) a + S1x1.size a ≤ S2x4.size a := by
  have := g.isLt; have := j.isLt; intro a; fin_cases a <;> simp <;> omega

/-- Group `g`'s big tile and last tile, as the body slices them. -/
def tileB (g : Fin 2) : Memref sig .tc .vmem S1504x1024 .f32 :=
  (scY.slice (Rect.unit (s := S2x1512x1024) ![g.val, 0, 0] S1x1504x1024.size (inb_tileB g)) (fun _ => rfl)).squeeze S1504x1024 squeezes_S1x1504x1024_S1504x1024
def tileL (g : Fin 2) : Memref sig .tc .vmem S1x1024 .f32 :=
  (scY.slice (Rect.unit (s := S2x1512x1024) ![g.val, 1504, 0] S1x1x1024.size (inb_tileL g)) (fun _ => rfl)).squeeze S1x1024 squeezes_S1x1x1024_S1x1024
/-- Batch `u`'s rows 0..1503 of the result, and its row 1504. -/
def pieceB (u : Fin 16) : Memref sig .tc .hbm S1504x1024 .f32 :=
  (hbO.slice (Rect.unit (s := S16x1505x1024) ![u.val, 0, 0] S1x1504x1024.size (inb_pieceB u)) (fun _ => rfl)).squeeze S1504x1024 squeezes_S1x1504x1024_S1504x1024
def pieceL (u : Fin 16) : Memref sig .tc .hbm S1x1024 .f32 :=
  (hbO.slice (Rect.unit (s := S16x1505x1024) ![u.val, 1504, 0] S1x1x1024.size (inb_pieceL u)) (fun _ => rfl)).squeeze S1x1024 squeezes_S1x1x1024_S1x1024
/-- Cell `(g, j)` of the kernel's DMA semaphores. -/
def cellA (g : Fin 2) (j : Fin 4) : DmaSems sig S_ :=
  (cc0_scratch4.slice (Rect.unit (s := S2x4) ![g.val, j.val] S1x1.size (inb_cell g j))).squeeze S_ squeezes_S1x1_S_
abbrev cellR (g : Fin 2) (j : Fin 4) : SemLoc sig := SemLoc.dma (cellA g j).sem

theorem cellR_00 : cellR 0 0 = SemLoc.dma 3 := by decide
theorem cellR_01 : cellR 0 1 = SemLoc.dma 4 := by decide
theorem cellR_02 : cellR 0 2 = SemLoc.dma 5 := by decide
theorem cellR_03 : cellR 0 3 = SemLoc.dma 6 := by decide
theorem cellR_10 : cellR 1 0 = SemLoc.dma 7 := by decide
theorem cellR_11 : cellR 1 1 = SemLoc.dma 8 := by decide
theorem cellR_12 : cellR 1 2 = SemLoc.dma 9 := by decide
theorem cellR_13 : cellR 1 3 = SemLoc.dma 10 := by decide

/-! ## Their elements -/

abbrev tileBSet (g : Fin 2) : Finset S2x1512x1024.Idx := (Rect.unit (s := S2x1512x1024) ![g.val, 0, 0] S1x1504x1024.size (inb_tileB g)).set
abbrev tileLSet (g : Fin 2) : Finset S2x1512x1024.Idx := (Rect.unit (s := S2x1512x1024) ![g.val, 1504, 0] S1x1x1024.size (inb_tileL g)).set
abbrev pieceBSet (u : Fin 16) : Finset S16x1505x1024.Idx := (Rect.unit (s := S16x1505x1024) ![u.val, 0, 0] S1x1504x1024.size (inb_pieceB u)).set
abbrev pieceLSet (u : Fin 16) : Finset S16x1505x1024.Idx := (Rect.unit (s := S16x1505x1024) ![u.val, 1504, 0] S1x1x1024.size (inb_pieceL u)).set
theorem tileB_set (g : Fin 2) : (tileB g).view.set = tileBSet g := by
  simp only [tileB, Memref.view_squeeze, View.set_reshape]; exact View.set_slice_whole _ _
theorem tileL_set (g : Fin 2) : (tileL g).view.set = tileLSet g := by
  simp only [tileL, Memref.view_squeeze, View.set_reshape]; exact View.set_slice_whole _ _
theorem pieceB_set (u : Fin 16) : (pieceB u).view.set = pieceBSet u := by
  simp only [pieceB, Memref.view_squeeze, View.set_reshape]; exact View.set_slice_whole _ _
theorem pieceL_set (u : Fin 16) : (pieceL u).view.set = pieceLSet u := by
  simp only [pieceL, Memref.view_squeeze, View.set_reshape]; exact View.set_slice_whole _ _

/-! ## The resources -/

section Families
variable (c : Dev nD)

abbrev cellP (g : Fin 2) (j : Fin 4) : sProp 𝕄 := semVal ((c : Thread nD τ), cellR g j) 0
theorem tileB_pt (g : Fin 2) (e) : ptOwn (F := F) c (tileB g) e = (((c : Thread nD τ).loc cc0_scratch1) ↦[tileBSet g]{fullShare} e : sProp 𝕄) := by
  unfold ptOwn; rw [tileB_set]; rfl
theorem tileL_pt (g : Fin 2) (e) : ptOwn (F := F) c (tileL g) e = (((c : Thread nD τ).loc cc0_scratch1) ↦[tileLSet g]{fullShare} e : sProp 𝕄) := by
  unfold ptOwn; rw [tileL_set]; rfl
theorem pieceB_pt (u : Fin 16) (e) : ptOwn (F := F) c (pieceB u) e = (((c : Thread nD τ).loc main_v1) ↦[pieceBSet u]{fullShare} e : sProp 𝕄) := by
  unfold ptOwn; rw [pieceB_set]; rfl
theorem pieceL_pt (u : Fin 16) (e) : ptOwn (F := F) c (pieceL u) e = (((c : Thread nD τ).loc main_v1) ↦[pieceLSet u]{fullShare} e : sProp 𝕄) := by
  unfold ptOwn; rw [pieceL_set]; rfl

/-- A big tile's copy out in flight, that will land the piece at `G`; a last tile's. -/
abbrev flightB (G : BufOf (F := F) c hbO) (g : Fin 2) (u : Fin 16) : sProp 𝕄 :=
  iprop(∃ e, Transfers.Flight countersEmb (c : Thread nD τ) (cellR g 0) default ((pieceB u).view.amount (cellR g 0)) iprop(ptOwn c (pieceB u) G ∗ ptOwn c (tileB g) e))
abbrev flightL (G : BufOf (F := F) c hbO) (g : Fin 2) (u : Fin 16) : sProp 𝕄 :=
  iprop(∃ e, Transfers.Flight countersEmb (c : Thread nD τ) (cellR g 1) default ((pieceL u).view.amount (cellR g 1)) iprop(ptOwn c (pieceL u) G ∗ ptOwn c (tileL g) e))

/-- A group free: its two cells at zero, its two tiles at some contents. -/
abbrev wfree (g : Fin 2) : sProp 𝕄 := iprop(cellP c g 0 ∗ cellP c g 1 ∗ (∃ e, ptOwn (F := F) c (tileB g) e) ∗ ∃ e, ptOwn (F := F) c (tileL g) e)
/-- A group in flight into batch `u`. -/
abbrev winfl (G : BufOf (F := F) c hbO) (g : Fin 2) (u : Fin 16) : sProp 𝕄 := iprop(flightB c G g u ∗ flightL c G g u)
/-- A batch of the result not yet copied out, and one that has landed. -/
abbrev wahead (u : Fin 16) : sProp 𝕄 := iprop((∃ f, ptOwn (F := F) c (pieceB u) f) ∗ ∃ f, ptOwn (F := F) c (pieceL u) f)
abbrev wbehind (G : BufOf (F := F) c hbO) (u : Fin 16) : sProp 𝕄 := iprop(ptOwn (F := F) c (pieceB u) G ∗ ptOwn (F := F) c (pieceL u) G)
/-- The ring before step `k`. -/
abbrev wring (G : BufOf (F := F) c hbO) (k : ℕ) : sProp 𝕄 :=
  Ring.AtBΦ 2 (wfree (F := F) c) (winfl c G) (wahead (F := F) c) (wbehind c G) k

end Families

/-! ## The operands at step `t`, by group and batch -/

section Canon
omit [FloatOps F]

theorem coff10 : ∀ t : Fin grid0.N, k0_off10 (grid0.coords t) = ![(Ring.sl 2 t.val).val, 0] := by decide +kernel
@[sl_canon] theorem canon10 (t : Fin grid0.N) (h : ∀ a, k0_off10 (grid0.coords t) a + S1x1.size a ≤ S2x4.size a) :
    (cc0_scratch4.slice (Rect.unit (s := S2x4) (k0_off10 (grid0.coords t)) S1x1.size h)).squeeze S_ squeezes_S1x1_S_ = cellA (Ring.sl 2 t.val) 0 :=
  congrArg (fun A : DmaSems sig S1x1 => A.squeeze S_ squeezes_S1x1_S_) (SemArray.slice_unit_congr _ (coff10 t) _ _)
@[sl_canon] theorem canon10' (t : Fin grid0.N) (h : ∀ a, k0_off10 (grid0.coords t) a + (![1, 1] : Fin 2 → Nat) a ≤ S2x4.size a) :
    (cc0_scratch4.slice (Rect.unit (s := S2x4) (k0_off10 (grid0.coords t)) ![1, 1] h)).squeeze S_ squeezes_S1x1_S_ = cellA (Ring.sl 2 t.val) 0 :=
  congrArg (fun A : DmaSems sig S1x1 => A.squeeze S_ squeezes_S1x1_S_) (SemArray.slice_unit_congr _ (coff10 t) _ _)
theorem coff13 : ∀ t : Fin grid0.N, k0_off13 (grid0.coords t) = ![(Ring.sl 2 t.val).val, 1] := by decide +kernel
@[sl_canon] theorem canon13 (t : Fin grid0.N) (h : ∀ a, k0_off13 (grid0.coords t) a + S1x1.size a ≤ S2x4.size a) :
    (cc0_scratch4.slice (Rect.unit (s := S2x4) (k0_off13 (grid0.coords t)) S1x1.size h)).squeeze S_ squeezes_S1x1_S_ = cellA (Ring.sl 2 t.val) 1 :=
  congrArg (fun A : DmaSems sig S1x1 => A.squeeze S_ squeezes_S1x1_S_) (SemArray.slice_unit_congr _ (coff13 t) _ _)
@[sl_canon] theorem canon13' (t : Fin grid0.N) (h : ∀ a, k0_off13 (grid0.coords t) a + (![1, 1] : Fin 2 → Nat) a ≤ S2x4.size a) :
    (cc0_scratch4.slice (Rect.unit (s := S2x4) (k0_off13 (grid0.coords t)) ![1, 1] h)).squeeze S_ squeezes_S1x1_S_ = cellA (Ring.sl 2 t.val) 1 :=
  congrArg (fun A : DmaSems sig S1x1 => A.squeeze S_ squeezes_S1x1_S_) (SemArray.slice_unit_congr _ (coff13 t) _ _)
theorem coff20 : ∀ t : Fin grid0.N, k0_off20 (grid0.coords t) = ![(Ring.sl 2 t.val).val, 0] := by decide +kernel
@[sl_canon] theorem canon20 (t : Fin grid0.N) (h : ∀ a, k0_off20 (grid0.coords t) a + S1x1.size a ≤ S2x4.size a) :
    (cc0_scratch4.slice (Rect.unit (s := S2x4) (k0_off20 (grid0.coords t)) S1x1.size h)).squeeze S_ squeezes_S1x1_S_ = cellA (Ring.sl 2 t.val) 0 :=
  congrArg (fun A : DmaSems sig S1x1 => A.squeeze S_ squeezes_S1x1_S_) (SemArray.slice_unit_congr _ (coff20 t) _ _)
@[sl_canon] theorem canon20' (t : Fin grid0.N) (h : ∀ a, k0_off20 (grid0.coords t) a + (![1, 1] : Fin 2 → Nat) a ≤ S2x4.size a) :
    (cc0_scratch4.slice (Rect.unit (s := S2x4) (k0_off20 (grid0.coords t)) ![1, 1] h)).squeeze S_ squeezes_S1x1_S_ = cellA (Ring.sl 2 t.val) 0 :=
  congrArg (fun A : DmaSems sig S1x1 => A.squeeze S_ squeezes_S1x1_S_) (SemArray.slice_unit_congr _ (coff20 t) _ _)
theorem coff23 : ∀ t : Fin grid0.N, k0_off23 (grid0.coords t) = ![(Ring.sl 2 t.val).val, 1] := by decide +kernel
@[sl_canon] theorem canon23 (t : Fin grid0.N) (h : ∀ a, k0_off23 (grid0.coords t) a + S1x1.size a ≤ S2x4.size a) :
    (cc0_scratch4.slice (Rect.unit (s := S2x4) (k0_off23 (grid0.coords t)) S1x1.size h)).squeeze S_ squeezes_S1x1_S_ = cellA (Ring.sl 2 t.val) 1 :=
  congrArg (fun A : DmaSems sig S1x1 => A.squeeze S_ squeezes_S1x1_S_) (SemArray.slice_unit_congr _ (coff23 t) _ _)
@[sl_canon] theorem canon23' (t : Fin grid0.N) (h : ∀ a, k0_off23 (grid0.coords t) a + (![1, 1] : Fin 2 → Nat) a ≤ S2x4.size a) :
    (cc0_scratch4.slice (Rect.unit (s := S2x4) (k0_off23 (grid0.coords t)) ![1, 1] h)).squeeze S_ squeezes_S1x1_S_ = cellA (Ring.sl 2 t.val) 1 :=
  congrArg (fun A : DmaSems sig S1x1 => A.squeeze S_ squeezes_S1x1_S_) (SemArray.slice_unit_congr _ (coff23 t) _ _)
theorem coff26 : ∀ t : Fin grid0.N, k0_off26 (grid0.coords t) = ![(Ring.sl 2 (t.val + 1)).val, 0] := by decide +kernel
@[sl_canon] theorem canon26 (t : Fin grid0.N) (h : ∀ a, k0_off26 (grid0.coords t) a + S1x1.size a ≤ S2x4.size a) :
    (cc0_scratch4.slice (Rect.unit (s := S2x4) (k0_off26 (grid0.coords t)) S1x1.size h)).squeeze S_ squeezes_S1x1_S_ = cellA (Ring.sl 2 (t.val + 1)) 0 :=
  congrArg (fun A : DmaSems sig S1x1 => A.squeeze S_ squeezes_S1x1_S_) (SemArray.slice_unit_congr _ (coff26 t) _ _)
@[sl_canon] theorem canon26' (t : Fin grid0.N) (h : ∀ a, k0_off26 (grid0.coords t) a + (![1, 1] : Fin 2 → Nat) a ≤ S2x4.size a) :
    (cc0_scratch4.slice (Rect.unit (s := S2x4) (k0_off26 (grid0.coords t)) ![1, 1] h)).squeeze S_ squeezes_S1x1_S_ = cellA (Ring.sl 2 (t.val + 1)) 0 :=
  congrArg (fun A : DmaSems sig S1x1 => A.squeeze S_ squeezes_S1x1_S_) (SemArray.slice_unit_congr _ (coff26 t) _ _)
theorem coff29 : ∀ t : Fin grid0.N, k0_off29 (grid0.coords t) = ![(Ring.sl 2 (t.val + 1)).val, 1] := by decide +kernel
@[sl_canon] theorem canon29 (t : Fin grid0.N) (h : ∀ a, k0_off29 (grid0.coords t) a + S1x1.size a ≤ S2x4.size a) :
    (cc0_scratch4.slice (Rect.unit (s := S2x4) (k0_off29 (grid0.coords t)) S1x1.size h)).squeeze S_ squeezes_S1x1_S_ = cellA (Ring.sl 2 (t.val + 1)) 1 :=
  congrArg (fun A : DmaSems sig S1x1 => A.squeeze S_ squeezes_S1x1_S_) (SemArray.slice_unit_congr _ (coff29 t) _ _)
@[sl_canon] theorem canon29' (t : Fin grid0.N) (h : ∀ a, k0_off29 (grid0.coords t) a + (![1, 1] : Fin 2 → Nat) a ≤ S2x4.size a) :
    (cc0_scratch4.slice (Rect.unit (s := S2x4) (k0_off29 (grid0.coords t)) ![1, 1] h)).squeeze S_ squeezes_S1x1_S_ = cellA (Ring.sl 2 (t.val + 1)) 1 :=
  congrArg (fun A : DmaSems sig S1x1 => A.squeeze S_ squeezes_S1x1_S_) (SemArray.slice_unit_congr _ (coff29 t) _ _)
theorem coff32 : ∀ t : Fin grid0.N, k0_off32 (grid0.coords t) = ![(Ring.sl 2 t.val).val, 0] := by decide +kernel
@[sl_canon] theorem canon32 (t : Fin grid0.N) (h : ∀ a, k0_off32 (grid0.coords t) a + S1x1.size a ≤ S2x4.size a) :
    (cc0_scratch4.slice (Rect.unit (s := S2x4) (k0_off32 (grid0.coords t)) S1x1.size h)).squeeze S_ squeezes_S1x1_S_ = cellA (Ring.sl 2 t.val) 0 :=
  congrArg (fun A : DmaSems sig S1x1 => A.squeeze S_ squeezes_S1x1_S_) (SemArray.slice_unit_congr _ (coff32 t) _ _)
@[sl_canon] theorem canon32' (t : Fin grid0.N) (h : ∀ a, k0_off32 (grid0.coords t) a + (![1, 1] : Fin 2 → Nat) a ≤ S2x4.size a) :
    (cc0_scratch4.slice (Rect.unit (s := S2x4) (k0_off32 (grid0.coords t)) ![1, 1] h)).squeeze S_ squeezes_S1x1_S_ = cellA (Ring.sl 2 t.val) 0 :=
  congrArg (fun A : DmaSems sig S1x1 => A.squeeze S_ squeezes_S1x1_S_) (SemArray.slice_unit_congr _ (coff32 t) _ _)
theorem coff34 : ∀ t : Fin grid0.N, k0_off34 (grid0.coords t) = ![(Ring.sl 2 t.val).val, 1] := by decide +kernel
@[sl_canon] theorem canon34 (t : Fin grid0.N) (h : ∀ a, k0_off34 (grid0.coords t) a + S1x1.size a ≤ S2x4.size a) :
    (cc0_scratch4.slice (Rect.unit (s := S2x4) (k0_off34 (grid0.coords t)) S1x1.size h)).squeeze S_ squeezes_S1x1_S_ = cellA (Ring.sl 2 t.val) 1 :=
  congrArg (fun A : DmaSems sig S1x1 => A.squeeze S_ squeezes_S1x1_S_) (SemArray.slice_unit_congr _ (coff34 t) _ _)
@[sl_canon] theorem canon34' (t : Fin grid0.N) (h : ∀ a, k0_off34 (grid0.coords t) a + (![1, 1] : Fin 2 → Nat) a ≤ S2x4.size a) :
    (cc0_scratch4.slice (Rect.unit (s := S2x4) (k0_off34 (grid0.coords t)) ![1, 1] h)).squeeze S_ squeezes_S1x1_S_ = cellA (Ring.sl 2 t.val) 1 :=
  congrArg (fun A : DmaSems sig S1x1 => A.squeeze S_ squeezes_S1x1_S_) (SemArray.slice_unit_congr _ (coff34 t) _ _)
theorem coff12 : ∀ t : Fin grid0.N, k0_off12 (grid0.coords t) = ![(Ring.sl 2 t.val).val, 0, 0] := by decide +kernel
@[sl_canon] theorem canon12 (t : Fin grid0.N) (h : ∀ a, k0_off12 (grid0.coords t) a + S1x1504x1024.size a ≤ S2x1512x1024.size a) :
    (scY.slice (Rect.unit (s := S2x1512x1024) (k0_off12 (grid0.coords t)) S1x1504x1024.size h) (fun _ => rfl)).squeeze S1504x1024 squeezes_S1x1504x1024_S1504x1024 = tileB (Ring.sl 2 t.val) :=
  congrArg (fun M : Memref sig .tc .vmem S1x1504x1024 .f32 => M.squeeze S1504x1024 squeezes_S1x1504x1024_S1504x1024) (Memref.slice_unit_congr _ (coff12 t) _ _ (fun _ => rfl) (fun _ => rfl))
@[sl_canon] theorem canon12' (t : Fin grid0.N) (h : ∀ a, k0_off12 (grid0.coords t) a + (![1, 1504, 1024] : Fin 3 → Nat) a ≤ S2x1512x1024.size a) :
    (scY.slice (Rect.unit (s := S2x1512x1024) (k0_off12 (grid0.coords t)) ![1, 1504, 1024] h) (fun _ => rfl)).squeeze S1504x1024 squeezes_S1x1504x1024_S1504x1024 = tileB (Ring.sl 2 t.val) :=
  congrArg (fun M : Memref sig .tc .vmem S1x1504x1024 .f32 => M.squeeze S1504x1024 squeezes_S1x1504x1024_S1504x1024) (Memref.slice_unit_congr _ (coff12 t) _ _ (fun _ => rfl) (fun _ => rfl))
theorem coff15 : ∀ t : Fin grid0.N, k0_off15 (grid0.coords t) = ![(Ring.sl 2 t.val).val, 1504, 0] := by decide +kernel
@[sl_canon] theorem canon15 (t : Fin grid0.N) (h : ∀ a, k0_off15 (grid0.coords t) a + S1x1x1024.size a ≤ S2x1512x1024.size a) :
    (scY.slice (Rect.unit (s := S2x1512x1024) (k0_off15 (grid0.coords t)) S1x1x1024.size h) (fun _ => rfl)).squeeze S1x1024 squeezes_S1x1x1024_S1x1024 = tileL (Ring.sl 2 t.val) :=
  congrArg (fun M : Memref sig .tc .vmem S1x1x1024 .f32 => M.squeeze S1x1024 squeezes_S1x1x1024_S1x1024) (Memref.slice_unit_congr _ (coff15 t) _ _ (fun _ => rfl) (fun _ => rfl))
@[sl_canon] theorem canon15' (t : Fin grid0.N) (h : ∀ a, k0_off15 (grid0.coords t) a + (![1, 1, 1024] : Fin 3 → Nat) a ≤ S2x1512x1024.size a) :
    (scY.slice (Rect.unit (s := S2x1512x1024) (k0_off15 (grid0.coords t)) ![1, 1, 1024] h) (fun _ => rfl)).squeeze S1x1024 squeezes_S1x1x1024_S1x1024 = tileL (Ring.sl 2 t.val) :=
  congrArg (fun M : Memref sig .tc .vmem S1x1x1024 .f32 => M.squeeze S1x1024 squeezes_S1x1x1024_S1x1024) (Memref.slice_unit_congr _ (coff15 t) _ _ (fun _ => rfl) (fun _ => rfl))
theorem coff22 : ∀ t : Fin grid0.N, k0_off22 (grid0.coords t) = ![(Ring.sl 2 t.val).val, 0, 0] := by decide +kernel
@[sl_canon] theorem canon22 (t : Fin grid0.N) (h : ∀ a, k0_off22 (grid0.coords t) a + S1x1504x1024.size a ≤ S2x1512x1024.size a) :
    (scY.slice (Rect.unit (s := S2x1512x1024) (k0_off22 (grid0.coords t)) S1x1504x1024.size h) (fun _ => rfl)).squeeze S1504x1024 squeezes_S1x1504x1024_S1504x1024 = tileB (Ring.sl 2 t.val) :=
  congrArg (fun M : Memref sig .tc .vmem S1x1504x1024 .f32 => M.squeeze S1504x1024 squeezes_S1x1504x1024_S1504x1024) (Memref.slice_unit_congr _ (coff22 t) _ _ (fun _ => rfl) (fun _ => rfl))
@[sl_canon] theorem canon22' (t : Fin grid0.N) (h : ∀ a, k0_off22 (grid0.coords t) a + (![1, 1504, 1024] : Fin 3 → Nat) a ≤ S2x1512x1024.size a) :
    (scY.slice (Rect.unit (s := S2x1512x1024) (k0_off22 (grid0.coords t)) ![1, 1504, 1024] h) (fun _ => rfl)).squeeze S1504x1024 squeezes_S1x1504x1024_S1504x1024 = tileB (Ring.sl 2 t.val) :=
  congrArg (fun M : Memref sig .tc .vmem S1x1504x1024 .f32 => M.squeeze S1504x1024 squeezes_S1x1504x1024_S1504x1024) (Memref.slice_unit_congr _ (coff22 t) _ _ (fun _ => rfl) (fun _ => rfl))
theorem coff25 : ∀ t : Fin grid0.N, k0_off25 (grid0.coords t) = ![(Ring.sl 2 t.val).val, 1504, 0] := by decide +kernel
@[sl_canon] theorem canon25 (t : Fin grid0.N) (h : ∀ a, k0_off25 (grid0.coords t) a + S1x1x1024.size a ≤ S2x1512x1024.size a) :
    (scY.slice (Rect.unit (s := S2x1512x1024) (k0_off25 (grid0.coords t)) S1x1x1024.size h) (fun _ => rfl)).squeeze S1x1024 squeezes_S1x1x1024_S1x1024 = tileL (Ring.sl 2 t.val) :=
  congrArg (fun M : Memref sig .tc .vmem S1x1x1024 .f32 => M.squeeze S1x1024 squeezes_S1x1x1024_S1x1024) (Memref.slice_unit_congr _ (coff25 t) _ _ (fun _ => rfl) (fun _ => rfl))
@[sl_canon] theorem canon25' (t : Fin grid0.N) (h : ∀ a, k0_off25 (grid0.coords t) a + (![1, 1, 1024] : Fin 3 → Nat) a ≤ S2x1512x1024.size a) :
    (scY.slice (Rect.unit (s := S2x1512x1024) (k0_off25 (grid0.coords t)) ![1, 1, 1024] h) (fun _ => rfl)).squeeze S1x1024 squeezes_S1x1x1024_S1x1024 = tileL (Ring.sl 2 t.val) :=
  congrArg (fun M : Memref sig .tc .vmem S1x1x1024 .f32 => M.squeeze S1x1024 squeezes_S1x1x1024_S1x1024) (Memref.slice_unit_congr _ (coff25 t) _ _ (fun _ => rfl) (fun _ => rfl))
theorem coff28 : ∀ t : Fin grid0.N, k0_off28 (grid0.coords t) = ![(Ring.sl 2 (t.val + 1)).val, 0, 0] := by decide +kernel
@[sl_canon] theorem canon28 (t : Fin grid0.N) (h : ∀ a, k0_off28 (grid0.coords t) a + S1x1504x1024.size a ≤ S2x1512x1024.size a) :
    (scY.slice (Rect.unit (s := S2x1512x1024) (k0_off28 (grid0.coords t)) S1x1504x1024.size h) (fun _ => rfl)).squeeze S1504x1024 squeezes_S1x1504x1024_S1504x1024 = tileB (Ring.sl 2 (t.val + 1)) :=
  congrArg (fun M : Memref sig .tc .vmem S1x1504x1024 .f32 => M.squeeze S1504x1024 squeezes_S1x1504x1024_S1504x1024) (Memref.slice_unit_congr _ (coff28 t) _ _ (fun _ => rfl) (fun _ => rfl))
@[sl_canon] theorem canon28' (t : Fin grid0.N) (h : ∀ a, k0_off28 (grid0.coords t) a + (![1, 1504, 1024] : Fin 3 → Nat) a ≤ S2x1512x1024.size a) :
    (scY.slice (Rect.unit (s := S2x1512x1024) (k0_off28 (grid0.coords t)) ![1, 1504, 1024] h) (fun _ => rfl)).squeeze S1504x1024 squeezes_S1x1504x1024_S1504x1024 = tileB (Ring.sl 2 (t.val + 1)) :=
  congrArg (fun M : Memref sig .tc .vmem S1x1504x1024 .f32 => M.squeeze S1504x1024 squeezes_S1x1504x1024_S1504x1024) (Memref.slice_unit_congr _ (coff28 t) _ _ (fun _ => rfl) (fun _ => rfl))
theorem coff31 : ∀ t : Fin grid0.N, k0_off31 (grid0.coords t) = ![(Ring.sl 2 (t.val + 1)).val, 1504, 0] := by decide +kernel
@[sl_canon] theorem canon31 (t : Fin grid0.N) (h : ∀ a, k0_off31 (grid0.coords t) a + S1x1x1024.size a ≤ S2x1512x1024.size a) :
    (scY.slice (Rect.unit (s := S2x1512x1024) (k0_off31 (grid0.coords t)) S1x1x1024.size h) (fun _ => rfl)).squeeze S1x1024 squeezes_S1x1x1024_S1x1024 = tileL (Ring.sl 2 (t.val + 1)) :=
  congrArg (fun M : Memref sig .tc .vmem S1x1x1024 .f32 => M.squeeze S1x1024 squeezes_S1x1x1024_S1x1024) (Memref.slice_unit_congr _ (coff31 t) _ _ (fun _ => rfl) (fun _ => rfl))
@[sl_canon] theorem canon31' (t : Fin grid0.N) (h : ∀ a, k0_off31 (grid0.coords t) a + (![1, 1, 1024] : Fin 3 → Nat) a ≤ S2x1512x1024.size a) :
    (scY.slice (Rect.unit (s := S2x1512x1024) (k0_off31 (grid0.coords t)) ![1, 1, 1024] h) (fun _ => rfl)).squeeze S1x1024 squeezes_S1x1x1024_S1x1024 = tileL (Ring.sl 2 (t.val + 1)) :=
  congrArg (fun M : Memref sig .tc .vmem S1x1x1024 .f32 => M.squeeze S1x1024 squeezes_S1x1x1024_S1x1024) (Memref.slice_unit_congr _ (coff31 t) _ _ (fun _ => rfl) (fun _ => rfl))
theorem coff33 : ∀ t : Fin grid0.N, k0_off33 (grid0.coords t) = ![(Ring.sl 2 t.val).val, 0, 0] := by decide +kernel
@[sl_canon] theorem canon33 (t : Fin grid0.N) (h : ∀ a, k0_off33 (grid0.coords t) a + S1x1504x1024.size a ≤ S2x1512x1024.size a) :
    (scY.slice (Rect.unit (s := S2x1512x1024) (k0_off33 (grid0.coords t)) S1x1504x1024.size h) (fun _ => rfl)).squeeze S1504x1024 squeezes_S1x1504x1024_S1504x1024 = tileB (Ring.sl 2 t.val) :=
  congrArg (fun M : Memref sig .tc .vmem S1x1504x1024 .f32 => M.squeeze S1504x1024 squeezes_S1x1504x1024_S1504x1024) (Memref.slice_unit_congr _ (coff33 t) _ _ (fun _ => rfl) (fun _ => rfl))
@[sl_canon] theorem canon33' (t : Fin grid0.N) (h : ∀ a, k0_off33 (grid0.coords t) a + (![1, 1504, 1024] : Fin 3 → Nat) a ≤ S2x1512x1024.size a) :
    (scY.slice (Rect.unit (s := S2x1512x1024) (k0_off33 (grid0.coords t)) ![1, 1504, 1024] h) (fun _ => rfl)).squeeze S1504x1024 squeezes_S1x1504x1024_S1504x1024 = tileB (Ring.sl 2 t.val) :=
  congrArg (fun M : Memref sig .tc .vmem S1x1504x1024 .f32 => M.squeeze S1504x1024 squeezes_S1x1504x1024_S1504x1024) (Memref.slice_unit_congr _ (coff33 t) _ _ (fun _ => rfl) (fun _ => rfl))
theorem coff35 : ∀ t : Fin grid0.N, k0_off35 (grid0.coords t) = ![(Ring.sl 2 t.val).val, 1504, 0] := by decide +kernel
@[sl_canon] theorem canon35 (t : Fin grid0.N) (h : ∀ a, k0_off35 (grid0.coords t) a + S1x1x1024.size a ≤ S2x1512x1024.size a) :
    (scY.slice (Rect.unit (s := S2x1512x1024) (k0_off35 (grid0.coords t)) S1x1x1024.size h) (fun _ => rfl)).squeeze S1x1024 squeezes_S1x1x1024_S1x1024 = tileL (Ring.sl 2 t.val) :=
  congrArg (fun M : Memref sig .tc .vmem S1x1x1024 .f32 => M.squeeze S1x1024 squeezes_S1x1x1024_S1x1024) (Memref.slice_unit_congr _ (coff35 t) _ _ (fun _ => rfl) (fun _ => rfl))
@[sl_canon] theorem canon35' (t : Fin grid0.N) (h : ∀ a, k0_off35 (grid0.coords t) a + (![1, 1, 1024] : Fin 3 → Nat) a ≤ S2x1512x1024.size a) :
    (scY.slice (Rect.unit (s := S2x1512x1024) (k0_off35 (grid0.coords t)) ![1, 1, 1024] h) (fun _ => rfl)).squeeze S1x1024 squeezes_S1x1x1024_S1x1024 = tileL (Ring.sl 2 t.val) :=
  congrArg (fun M : Memref sig .tc .vmem S1x1x1024 .f32 => M.squeeze S1x1024 squeezes_S1x1x1024_S1x1024) (Memref.slice_unit_congr _ (coff35 t) _ _ (fun _ => rfl) (fun _ => rfl))
theorem coff21 : ∀ t : Fin grid0.N, k0_off21 (grid0.coords t) = ![(Ring.bk 16 t.val).val, 0, 0] := by decide +kernel
@[sl_canon] theorem canon21 (t : Fin grid0.N) (h : ∀ a, k0_off21 (grid0.coords t) a + S1x1504x1024.size a ≤ S16x1505x1024.size a) :
    (hbO.slice (Rect.unit (s := S16x1505x1024) (k0_off21 (grid0.coords t)) S1x1504x1024.size h) (fun _ => rfl)).squeeze S1504x1024 squeezes_S1x1504x1024_S1504x1024 = pieceB (Ring.bk 16 t.val) :=
  congrArg (fun M : Memref sig .tc .hbm S1x1504x1024 .f32 => M.squeeze S1504x1024 squeezes_S1x1504x1024_S1504x1024) (Memref.slice_unit_congr _ (coff21 t) _ _ (fun _ => rfl) (fun _ => rfl))
@[sl_canon] theorem canon21' (t : Fin grid0.N) (h : ∀ a, k0_off21 (grid0.coords t) a + (![1, 1504, 1024] : Fin 3 → Nat) a ≤ S16x1505x1024.size a) :
    (hbO.slice (Rect.unit (s := S16x1505x1024) (k0_off21 (grid0.coords t)) ![1, 1504, 1024] h) (fun _ => rfl)).squeeze S1504x1024 squeezes_S1x1504x1024_S1504x1024 = pieceB (Ring.bk 16 t.val) :=
  congrArg (fun M : Memref sig .tc .hbm S1x1504x1024 .f32 => M.squeeze S1504x1024 squeezes_S1x1504x1024_S1504x1024) (Memref.slice_unit_congr _ (coff21 t) _ _ (fun _ => rfl) (fun _ => rfl))
theorem coff24 : ∀ t : Fin grid0.N, k0_off24 (grid0.coords t) = ![(Ring.bk 16 t.val).val, 1504, 0] := by decide +kernel
@[sl_canon] theorem canon24 (t : Fin grid0.N) (h : ∀ a, k0_off24 (grid0.coords t) a + S1x1x1024.size a ≤ S16x1505x1024.size a) :
    (hbO.slice (Rect.unit (s := S16x1505x1024) (k0_off24 (grid0.coords t)) S1x1x1024.size h) (fun _ => rfl)).squeeze S1x1024 squeezes_S1x1x1024_S1x1024 = pieceL (Ring.bk 16 t.val) :=
  congrArg (fun M : Memref sig .tc .hbm S1x1x1024 .f32 => M.squeeze S1x1024 squeezes_S1x1x1024_S1x1024) (Memref.slice_unit_congr _ (coff24 t) _ _ (fun _ => rfl) (fun _ => rfl))
@[sl_canon] theorem canon24' (t : Fin grid0.N) (h : ∀ a, k0_off24 (grid0.coords t) a + (![1, 1, 1024] : Fin 3 → Nat) a ≤ S16x1505x1024.size a) :
    (hbO.slice (Rect.unit (s := S16x1505x1024) (k0_off24 (grid0.coords t)) ![1, 1, 1024] h) (fun _ => rfl)).squeeze S1x1024 squeezes_S1x1x1024_S1x1024 = pieceL (Ring.bk 16 t.val) :=
  congrArg (fun M : Memref sig .tc .hbm S1x1x1024 .f32 => M.squeeze S1x1024 squeezes_S1x1x1024_S1x1024) (Memref.slice_unit_congr _ (coff24 t) _ _ (fun _ => rfl) (fun _ => rfl))
theorem coff17 : ∀ t : Fin grid0.N, k0_off17 (grid0.coords t) = ![(Ring.sl 2 t.val).val, 0, 0] := by decide +kernel
instance (priority := high) closed17 (t : Fin grid0.N) : ClosedOff (k0_off17 (grid0.coords t)) := ⟨![(Ring.sl 2 t.val).val, 0, 0], coff17 t⟩
theorem coff18 : ∀ t : Fin grid0.N, k0_off18 (grid0.coords t) = ![(Ring.sl 2 t.val).val, 0, 0] := by decide +kernel
instance (priority := high) closed18 (t : Fin grid0.N) : ClosedOff (k0_off18 (grid0.coords t)) := ⟨![(Ring.sl 2 t.val).val, 0, 0], coff18 t⟩
theorem coff19 : ∀ t : Fin grid0.N, k0_off19 (grid0.coords t) = ![(Ring.sl 2 t.val).val, 1504, 0] := by decide +kernel
instance (priority := high) closed19 (t : Fin grid0.N) : ClosedOff (k0_off19 (grid0.coords t)) := ⟨![(Ring.sl 2 t.val).val, 1504, 0], coff19 t⟩
theorem coff16 : ∀ t : Fin grid0.N, k0_off16 (grid0.coords t) = ![t.val, 0, 0] := by decide +kernel

/-- The body's three conditions over the grid: the first step, a step from the third on, the last step. -/
theorem cond1_iff : ∀ t : Fin grid0.N, k0_cond1 (grid0.coords t) = 1#1 ↔ t.val = 0 := by decide +kernel
theorem cond2_iff : ∀ t : Fin grid0.N, k0_cond2 (grid0.coords t) = 1#1 ↔ 2 ≤ t.val := by decide +kernel
theorem cond3_iff : ∀ t : Fin grid0.N, k0_cond3 (grid0.coords t) = 1#1 ↔ t.val = 15 := by decide +kernel
end Canon

end Cert.KernelIdeal.Hand

end
-- ==== Proof.IVal.lean ====
/-
  What the kernel computes, as functions of the buffers it reads, and what its stores and copies leave. A batch's big tile is
  the four start rows over the product of the masked sounds (under four rows of zero) with the weights; its last tile is the
  end row; the result is those at every batch. Generic in the float type: no law of arithmetic is used here.
-/
module

public import proofs.«01_k».proof.Proof.IRing
public import Idealize.ShloMosaic.Lib.Pointwise
public import Idealize.ShloMosaic.Lib.ValueLayout
public import Idealize.ShloMosaic.Lib.ViewIndex
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values -/

/-- Batch `u` of the sounds. -/
def rowsOf (A : S16x1500x128.Idx → Elt F .f32) (u : Fin 16) : Vec F S1x1500x128 .f32 := fun y => A (ix3 u (y 1) (y 2))
/-- Batch `u` of the masks. -/
def maskOf (M : S16x1x1500.Idx → Elt F .f32) (u : Fin 16) : Vec F S1x1x1500 .f32 := fun y => M (ix3 u (y 1) (y 2))
/-- A batch's masked sounds under four rows of zero. -/
def xOf (a : Vec F S1x1500x128 .f32) (m : Vec F S1x1x1500 .f32) : Vec F S1504x128 .f32 := fun y =>
  if h : (y 0).val < 4 then k0_pay2 (F := F) (ix2 (⟨(y 0).val, h⟩ : Fin 4) (y 1))
  else k0_pay3 a m (ix2 (⟨(y 0).val - 4, by have : (y 0).val < 1504 := (y 0).isLt; omega⟩ : Fin 1500) (y 1))
/-- A batch's big tile: start rows `R` over the product. -/
def bigOf (x : Vec F S1504x128 .f32) (w : Vec F S128x1024 .f32) (R : Fin 5 → Fin 1024 → Elt F .f32) : Vec F S1504x1024 .f32 := fun y =>
  if h : (y 0).val < 4 then R ⟨(y 0).val, by omega⟩ (y 1) else k0_pay4 x w (ix3 (0 : Fin 1) (y 0) (y 1))
theorem xOf_lo (a m) (r : Fin 1504) (k : Fin 128) (h : r.val < 4) : xOf (F := F) a m (ix2 r k) = k0_pay2 (F := F) (ix2 (⟨r.val, h⟩ : Fin 4) k) := by
  unfold xOf; rw [dif_pos (show ((ix2 r k : S1504x128.Idx) 0).val < 4 from h)]; rfl
theorem xOf_hi (a m) (r : Fin 1504) (k : Fin 128) (h : ¬ r.val < 4) :
    xOf (F := F) a m (ix2 r k) = k0_pay3 a m (ix2 (⟨r.val - 4, by omega⟩ : Fin 1500) k) := by
  unfold xOf; rw [dif_neg (show ¬ ((ix2 r k : S1504x128.Idx) 0).val < 4 from h)]; rfl
theorem bigOf_lo (x w R) (r : Fin 1504) (j : Fin 1024) (h : r.val < 4) : bigOf (F := F) x w R (ix2 r j) = R ⟨r.val, by omega⟩ j := by
  unfold bigOf; rw [dif_pos (show ((ix2 r j : S1504x1024.Idx) 0).val < 4 from h)]; rfl
theorem bigOf_hi (x w R) (r : Fin 1504) (j : Fin 1024) (h : ¬ r.val < 4) : bigOf (F := F) x w R (ix2 r j) = k0_pay4 x w (ix3 (0 : Fin 1) r j) := by
  unfold bigOf; rw [dif_neg (show ¬ ((ix2 r j : S1504x1024.Idx) 0).val < 4 from h)]; rfl
/-- The whole result. -/
def resG (A : S16x1500x128.Idx → Elt F .f32) (M : S16x1x1500.Idx → Elt F .f32) (w : Vec F S128x1024 .f32)
    (R : Fin 5 → Fin 1024 → Elt F .f32) : S16x1505x1024.Idx → Elt F .f32 := fun i =>
  if h : (i 1).val < 1504 then bigOf (xOf (rowsOf A (i 0)) (maskOf M (i 0))) w R (ix2 (⟨(i 1).val, h⟩ : Fin 1504) (i 2)) else R 4 (i 2)

/-! ## Where the slices' elements lie -/

/-- Dropping the leading unit axis, at an index. -/
theorem sq_ix2 {a b : ℕ} (h : (⟨2, ![a, b]⟩ : Shape).numel = (⟨3, ![1, a, b]⟩ : Shape).numel) (x : Fin a) (y : Fin b) :
    Shape.reshapeEquiv h (ix2 x y) = ix3 (0 : Fin 1) x y := ValueIdx.reshapeEquiv_ix2_1ab h x y
theorem tileB_emb (g : Fin 2) (r : Fin 1504) (j : Fin 1024) :
    (tileB g).view.emb (ix2 r j) = (ix3 g (⟨r.val, by omega⟩ : Fin 1512) j : S2x1512x1024.Idx) := by
  show (Rect.unit (s := S2x1512x1024) ![g.val, 0, 0] S1x1504x1024.size (inb_tileB g)).emb (Shape.reshapeEquiv _ (ix2 r j)) = _
  rw [sq_ix2]
  refine Shape.idx3_ext ?_ ?_ ?_
  · show g.val + 1 * 0 = g.val; omega
  · show 0 + 1 * r.val = r.val; omega
  · show 0 + 1 * j.val = j.val; omega
theorem tileL_emb (g : Fin 2) (r : Fin 1) (j : Fin 1024) :
    (tileL g).view.emb (ix2 r j) = (ix3 g (⟨1504, by omega⟩ : Fin 1512) j : S2x1512x1024.Idx) := by
  show (Rect.unit (s := S2x1512x1024) ![g.val, 1504, 0] S1x1x1024.size (inb_tileL g)).emb (Shape.reshapeEquiv _ (ix2 r j)) = _
  rw [sq_ix2]
  refine Shape.idx3_ext ?_ ?_ ?_
  · show g.val + 1 * 0 = g.val; omega
  · show 1504 + 1 * r.val = 1504; omega
  · show 0 + 1 * j.val = j.val; omega
theorem pieceB_emb (u : Fin 16) (r : Fin 1504) (j : Fin 1024) :
    (pieceB u).view.emb (ix2 r j) = (ix3 u (⟨r.val, by omega⟩ : Fin 1505) j : S16x1505x1024.Idx) := by
  show (Rect.unit (s := S16x1505x1024) ![u.val, 0, 0] S1x1504x1024.size (inb_pieceB u)).emb (Shape.reshapeEquiv _ (ix2 r j)) = _
  rw [sq_ix2]
  refine Shape.idx3_ext ?_ ?_ ?_
  · show u.val + 1 * 0 = u.val; omega
  · show 0 + 1 * r.val = r.val; omega
  · show 0 + 1 * j.val = j.val; omega
theorem pieceL_emb (u : Fin 16) (r : Fin 1) (j : Fin 1024) :
    (pieceL u).view.emb (ix2 r j) = (ix3 u (⟨1504, by omega⟩ : Fin 1505) j : S16x1505x1024.Idx) := by
  show (Rect.unit (s := S16x1505x1024) ![u.val, 1504, 0] S1x1x1024.size (inb_pieceL u)).emb (Shape.reshapeEquiv _ (ix2 r j)) = _
  rw [sq_ix2]
  refine Shape.idx3_ext ?_ ?_ ?_
  · show u.val + 1 * 0 = u.val; omega
  · show 1504 + 1 * r.val = 1504; omega
  · show 0 + 1 * j.val = j.val; omega

theorem tileB_read (g : Fin 2) (f : S2x1512x1024.Idx → Elt F .f32) (r : Fin 1504) (j : Fin 1024) :
    (tileB g).view.read (Elt F) f (ix2 r j) = scY.view.read (Elt F) f (ix3 g (⟨r.val, by omega⟩ : Fin 1512) j) := by
  show f ((tileB g).view.emb (ix2 r j)) = f _
  rw [tileB_emb]; rfl
theorem tileL_read (g : Fin 2) (f : S2x1512x1024.Idx → Elt F .f32) (r : Fin 1) (j : Fin 1024) :
    (tileL g).view.read (Elt F) f (ix2 r j) = scY.view.read (Elt F) f (ix3 g (⟨1504, by omega⟩ : Fin 1512) j) := by
  show f ((tileL g).view.emb (ix2 r j)) = f _
  rw [tileL_emb]; rfl
theorem pieceB_read (u : Fin 16) (f : S16x1505x1024.Idx → Elt F .f32) (r : Fin 1504) (j : Fin 1024) :
    (pieceB u).view.read (Elt F) f (ix2 r j) = f (ix3 u (⟨r.val, by omega⟩ : Fin 1505) j) := by
  show f ((pieceB u).view.emb (ix2 r j)) = f _
  rw [pieceB_emb]
theorem pieceL_read (u : Fin 16) (f : S16x1505x1024.Idx → Elt F .f32) (r : Fin 1) (j : Fin 1024) :
    (pieceL u).view.read (Elt F) f (ix2 r j) = f (ix3 u (⟨1504, by omega⟩ : Fin 1505) j) := by
  show f ((pieceL u).view.emb (ix2 r j)) = f _
  rw [pieceL_emb]

/-- The result read through a piece is that batch's tile. -/
theorem resG_pieceB (A M w R) (u : Fin 16) :
    (pieceB u).view.read (Elt F) (resG (F := F) A M w R) = bigOf (xOf (rowsOf A u) (maskOf M u)) w R := by
  funext y
  obtain ⟨r, j, rfl⟩ : ∃ (r : Fin 1504) (j : Fin 1024), y = ix2 r j := ⟨y 0, y 1, eq_ix2 y⟩
  rw [pieceB_read]
  have h : ((⟨r.val, by omega⟩ : Fin 1505)).val < 1504 := r.isLt
  unfold resG
  exact dif_pos h
theorem resG_pieceL (A M w R) (u : Fin 16) :
    (pieceL u).view.read (Elt F) (resG (F := F) A M w R) = fun y => R 4 (y 1) := by
  funext y
  obtain ⟨r, j, rfl⟩ : ∃ (r : Fin 1) (j : Fin 1024), y = ix2 r j := ⟨y 0, y 1, eq_ix2 y⟩
  rw [pieceL_read]
  unfold resG
  exact dif_neg (by show ¬ (1504 : ℕ) < 1504; omega)

/-- A memref's own elements at two contents that read the same through it. -/
theorem own_congr (c : Dev nD) {sp : Space} {S : Shape} {e : EltTy} (M : Memref sig .tc sp S e) (f g : BufOf (F := F) c M)
    (h : M.view.read (Elt F) f = M.view.read (Elt F) g) : ptOwn (F := F) c M f = ptOwn c M g :=
  pointsTo_congr fun i hi => by
    obtain ⟨x, -, rfl⟩ := Finset.mem_map.mp hi
    exact View.eq_of_read_eq (congrFun h x)

/-! ## What the stores leave -/

/-- Rows 0..3 of the masked sounds' buffer are zero. -/
def ZeroRows (f : S1504x128.Idx → Elt F .f32) : Prop :=
  ∀ (r : Fin 4) (k : Fin 128), scX.view.read (Elt F) f (ix2 (⟨r.val, by omega⟩ : Fin 1504) k) = k0_pay2 (F := F) (ix2 r k)

/-- Two indices of rank two are equal if their coordinates are. -/
theorem idx2_ext {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

/-- A store of whole rows into the masked sounds' buffer, read inside and outside its rows. -/
theorem x_hit (f : S1504x128.Idx → Elt F .f32) (o n : ℕ) (inb) (p : (⟨2, ![n, 128]⟩ : Shape).Idx → Elt F .f32) (r : Fin 1504) (k : Fin 128) (i : Fin n) (hi : r.val = o + i.val) :
    scX.view.read (Elt F) (scX.view.writes (Elt F) f [⟨Rect.unit (s := S1504x128) ![o, 0] ![n, 128] inb, p⟩]) (ix2 r k) = p (ix2 i k) :=
  View.read_writes_cons_rows_of_mem (d := ![1504, 128]) scX.view f inb p [] (ix2 r k) (ix2 i k) rfl hi rfl
theorem x_miss (f : S1504x128.Idx → Elt F .f32) (o n : ℕ) (inb) (p : (⟨2, ![n, 128]⟩ : Shape).Idx → Elt F .f32) (r : Fin 1504) (k : Fin 128) (hi : r.val < o) :
    scX.view.read (Elt F) (scX.view.writes (Elt F) f [⟨Rect.unit (s := S1504x128) ![o, 0] ![n, 128] inb, p⟩]) (ix2 r k) = scX.view.read (Elt F) f (ix2 r k) :=
  View.read_writes_cons_rows_of_not_mem (d := ![1504, 128]) scX.view f (o := o) (W := n) inb p [] (ix2 r k) rfl rfl (Or.inl hi)
/-- A store into the slots' buffer, read inside and outside. -/
theorem y_hit (f : S2x1512x1024.Idx → Elt F .f32) (g : Fin 2) (o n : ℕ) (off : Fin 3 → ℕ) (hoff : off = ![g.val, o, 0]) (inb) (p : (⟨3, ![1, n, 1024]⟩ : Shape).Idx → Elt F .f32)
    (L) (r : Fin 1512) (j : Fin 1024) (i : Fin n) (hi : r.val = o + i.val) :
    scY.view.read (Elt F) (scY.view.writes (Elt F) f (⟨Rect.unit (s := S2x1512x1024) off ![1, n, 1024] inb, p⟩ :: L)) (ix3 g r j) = p (ix3 (0 : Fin 1) i j) := by
  refine View.read_writes_cons_unit_of_mem scY.view f inb p L (ix3 g r j) (ix3 (0 : Fin 1) i j) hoff fun a => ?_
  match a with
  | ⟨0, _⟩ => rfl
  | ⟨1, _⟩ => exact hi
  | ⟨2, _⟩ => exact (Nat.zero_add _).symm
theorem y_miss (f : S2x1512x1024.Idx → Elt F .f32) (g : Fin 2) (o n : ℕ) (off : Fin 3 → ℕ) (hoff : off = ![g.val, o, 0]) (inb) (p : (⟨3, ![1, n, 1024]⟩ : Shape).Idx → Elt F .f32)
    (L) (r : Fin 1512) (j : Fin 1024) (hi : o + n ≤ r.val) :
    scY.view.read (Elt F) (scY.view.writes (Elt F) f (⟨Rect.unit (s := S2x1512x1024) off ![1, n, 1024] inb, p⟩ :: L)) (ix3 g r j)
      = scY.view.read (Elt F) (scY.view.writes (Elt F) f L) (ix3 g r j) :=
  View.read_writes_cons_unit_of_not_mem scY.view f inb p L (ix3 g r j) hoff (1 : Fin 3) (Or.inr hi)

theorem zeroRows_init (f : S1504x128.Idx → Elt F .f32) (inb) :
    ZeroRows (F := F) (scX.view.writes (Elt F) f [⟨Rect.unit (s := S1504x128) ![0, 0] S4x128.size inb, k0_pay2⟩]) := fun r k =>
  x_hit f 0 4 inb k0_pay2 ⟨r.val, by omega⟩ k r (Nat.zero_add _).symm

theorem zeroRows_keep (f : S1504x128.Idx → Elt F .f32) (h : ZeroRows f) (inb) (p : Vec F S1500x128 .f32) :
    ZeroRows (F := F) (scX.view.writes (Elt F) f [⟨Rect.unit (s := S1504x128) ![4, 0] S1500x128.size inb, p⟩]) := fun r k =>
  (x_miss f 4 1500 inb p ⟨r.val, by omega⟩ k r.isLt).trans (h r k)

theorem x_read (f : S1504x128.Idx → Elt F .f32) (h : ZeroRows f) (inb) (a m) :
    scX.view.read (Elt F) (scX.view.writes (Elt F) f [⟨Rect.unit (s := S1504x128) ![4, 0] S1500x128.size inb, k0_pay3 a m⟩]) = xOf (F := F) a m := by
  funext y
  obtain ⟨r, k, rfl⟩ : ∃ (r : Fin 1504) (k : Fin 128), y = ix2 r k := ⟨y 0, y 1, eq_ix2 y⟩
  by_cases hr : r.val < 4
  · rw [xOf_lo _ _ _ _ hr]
    exact (x_miss f 4 1500 inb _ r k hr).trans (h ⟨r.val, hr⟩ k)
  · rw [xOf_hi _ _ _ _ hr]
    exact x_hit f 4 1500 inb _ r k ⟨r.val - 4, by omega⟩ (by show r.val = 4 + (r.val - 4); omega)

theorem pay5_at (e : Vec F S4x1024 .f32) (r : Fin 4) (j : Fin 1024) : k0_pay5 e (ix3 (0 : Fin 1) r j) = e (ix2 r j) := by
  pointwise [k0_pay5]
theorem pay1_at (e : Vec F S1x1024 .f32) (j : Fin 1024) : k0_pay1 e (ix3 (0 : Fin 1) (0 : Fin 1) j) = e (ix2 0 j) := by
  pointwise [k0_pay1]

/-- The big tile after the product's store and the start rows' store over it. -/
theorem tileB_stored (g : Fin 2) (f : S2x1512x1024.Idx → Elt F .f32) (o o' : Fin 3 → ℕ) (ho : o = ![g.val, 0, 0]) (ho' : o' = ![g.val, 0, 0])
    (inb : ∀ a, o a + S1x1504x1024.size a ≤ S2x1512x1024.size a) (inb' : ∀ a, o' a + S1x4x1024.size a ≤ S2x1512x1024.size a)
    (x : Vec F S1504x128 .f32) (w : Vec F S128x1024 .f32) (e : Vec F S4x1024 .f32) (R : Fin 5 → Fin 1024 → Elt F .f32)
    (hR : ∀ (r : Fin 4) (j : Fin 1024), e (ix2 r j) = R ⟨r.val, by omega⟩ j) :
    (tileB g).view.read (Elt F) (scY.view.writes (Elt F) f [⟨Rect.unit (s := S2x1512x1024) o' S1x4x1024.size inb', k0_pay5 e⟩,
      ⟨Rect.unit (s := S2x1512x1024) o S1x1504x1024.size inb, k0_pay4 x w⟩]) = bigOf x w R := by
  funext y
  obtain ⟨r, j, rfl⟩ : ∃ (r : Fin 1504) (j : Fin 1024), y = ix2 r j := ⟨y 0, y 1, eq_ix2 y⟩
  rw [tileB_read]
  by_cases hr : r.val < 4
  · rw [bigOf_lo _ _ _ _ _ hr]
    exact (y_hit f g 0 4 o' ho' inb' _ _ ⟨r.val, by omega⟩ j ⟨r.val, hr⟩ (Nat.zero_add _).symm).trans ((pay5_at e _ j).trans (hR ⟨r.val, hr⟩ j))
  · rw [bigOf_hi _ _ _ _ _ hr]
    exact (y_miss f g 0 4 o' ho' inb' _ _ ⟨r.val, by omega⟩ j (by show 0 + 4 ≤ r.val; omega)).trans
      (y_hit f g 0 1504 o ho inb _ _ ⟨r.val, by omega⟩ j r (Nat.zero_add _).symm)

/-- The last tile after the end row's store. -/
theorem tileL_stored (g : Fin 2) (f : S2x1512x1024.Idx → Elt F .f32) (o : Fin 3 → ℕ) (ho : o = ![g.val, 1504, 0])
    (inb : ∀ a, o a + S1x1x1024.size a ≤ S2x1512x1024.size a)
    (e : Vec F S1x1024 .f32) (R : Fin 5 → Fin 1024 → Elt F .f32) (hR : ∀ (j : Fin 1024), e (ix2 0 j) = R 4 j) :
    (tileL g).view.read (Elt F) (scY.view.writes (Elt F) f [⟨Rect.unit (s := S2x1512x1024) o S1x1x1024.size inb, k0_pay1 e⟩]) = fun y => R 4 (y 1) := by
  funext y
  obtain ⟨r, j, rfl⟩ : ∃ (r : Fin 1) (j : Fin 1024), y = ix2 r j := ⟨y 0, y 1, eq_ix2 y⟩
  rw [tileL_read]
  exact (y_hit f g 1504 1 o ho inb _ _ ⟨1504, by omega⟩ j (0 : Fin 1) rfl).trans ((pay1_at e j).trans (hR j))

/-- Row `r` of the embedding rows' buffer, `r < 5`, is `R r`. -/
def RowsAre (f : S8x1024.Idx → Elt F .f32) (R : Fin 5 → Fin 1024 → Elt F .f32) : Prop :=
  ∀ (r : Fin 5) (j : Fin 1024), f (ix2 (⟨r.val, by omega⟩ : Fin 8) j) = R r j

theorem rows_start (f R) (h : RowsAre (F := F) f R) (inb) (r : Fin 4) (j : Fin 1024) :
    scE.view.readAt (Elt F) (Rect.unit (s := S8x1024) ![0, 0] S4x1024.size inb).toLoadRect f (ix2 r j) = R ⟨r.val, by omega⟩ j := by
  refine Eq.trans ?_ (h ⟨r.val, by omega⟩ j)
  show f _ = f _
  congr 1
  exact idx2_ext (by show 0 + 1 * r.val = r.val; omega) (by show 0 + 1 * j.val = j.val; omega)
theorem rows_end (f R) (h : RowsAre (F := F) f R) (inb) (j : Fin 1024) :
    scE.view.readAt (Elt F) (Rect.unit (s := S8x1024) ![4, 0] S1x1024.size inb).toLoadRect f (ix2 0 j) = R 4 j := by
  refine Eq.trans ?_ (h 4 j)
  show f _ = f _
  congr 1
  exact idx2_ext (by show 4 + 1 * 0 = 4; omega) (by show 0 + 1 * j.val = j.val; omega)

/-- The sounds' load at a step is its batch. -/
theorem sounds_read (A : S16x1500x128.Idx → Elt F .f32) (u : Fin 16) (o : Fin 3 → ℕ) (ho : o = ![u.val, 0, 0]) (inb) :
    scA.view.readAt (Elt F) (Rect.unit (s := S16x1500x128) o S1x1500x128.size inb).toLoadRect A = rowsOf A u := by
  subst ho
  funext y
  obtain ⟨z, r, k, rfl⟩ : ∃ (z : Fin 1) (r : Fin 1500) (k : Fin 128), y = ix3 z r k := ⟨y 0, y 1, y 2, eq_ix3 y⟩
  show A _ = A _
  congr 1
  refine Shape.idx3_ext ?_ ?_ ?_
  · show u.val + 1 * z.val = u.val; omega
  · show 0 + 1 * r.val = r.val; omega
  · show 0 + 1 * k.val = k.val; omega

end Cert.KernelIdeal.Hand

end
-- ==== Proof.IBody.lean ====
/-
  One run of the kernel's body after the first step: it masks the step's batch of the sounds, packs the step's group of the
  slots, and copies the group's two tiles out into the step's batch of the result, where they will land the result `G`.
-/
module

public import proofs.«01_k».proof.Proof.IVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The body at point `t` on the operands the launch hands it. -/
abbrev bodyOn (t : Fin grid0.N) (ma : Memref sig .tc .vmem S1x1x1500 .f32) (hma : ma.IsWhole)
    (mw : Memref sig .tc .vmem S128x1024 .f32) (hmw : mw.IsWhole) : Prog (TpuEff nD τ sig (Elt F) Λ₀ .tc) PUnit :=
  cc0__body (grid0.coords t) smS (Memref.isWhole_whole _) smE (Memref.isWhole_whole _) hbS (Memref.isWhole_whole _) ma hma mw hmw
    hbE (Memref.isWhole_whole _) hbO (Memref.isWhole_whole _) scX (Memref.isWhole_whole _) scY (Memref.isWhole_whole _)
    scE (Memref.isWhole_whole _) scA (Memref.isWhole_whole _) cc0_scratch4

/-- What the result is to be at batch `u`, from the sounds `A`, the step's masks and the weights, and the embedding rows `R`. -/
structure StepIs (c : Dev nD) (G : BufOf (F := F) c hbO) (u : Fin 16) (A : S16x1500x128.Idx → Elt F .f32) (m : Vec F S1x1x1500 .f32)
    (w : Vec F S128x1024 .f32) (R : Fin 5 → Fin 1024 → Elt F .f32) : Prop where
  big : (pieceB u).view.read (Elt F) G = bigOf (xOf (rowsOf A u) m) w R
  last : (pieceL u).view.read (Elt F) G = fun y => R 4 (y 1)

theorem coff16' : ∀ t : Fin grid0.N, k0_off16 (grid0.coords t) = ![(Ring.bk 16 t.val).val, 0, 0] := by decide +kernel

/-- The product's first operand as the body loads it. -/
theorem x_loaded (t : Fin grid0.N) (ma : Memref sig .tc .vmem S1x1x1500 .f32) (fm : ma.view.ty.Contents (Elt F)) (A : S16x1500x128.Idx → Elt F .f32)
    (f : S1504x128.Idx → Elt F .f32) (h : ZeroRows f) (i1 i2 i3 i4) :
    scX.view.readAt (Elt F) (Rect.unit (s := S1504x128) ![0, 0] S1504x128.size i1).toLoadRect (scX.view.writes (Elt F) f [⟨Rect.unit (s := S1504x128) ![4, 0] S1500x128.size i2,
        k0_pay3 (scA.view.readAt (Elt F) (Rect.unit (s := S16x1500x128) (k0_off16 (grid0.coords t)) S1x1500x128.size i3).toLoadRect A)
          (ma.view.readAt (Elt F) (Rect.unit (s := S1x1x1500) ![0, 0, 0] S1x1x1500.size i4).toLoadRect fm)⟩])
      = xOf (rowsOf A (Ring.bk 16 t.val)) (ma.view.read (Elt F) fm) := by
  rw [sounds_read A _ _ (coff16' t), View.readAt_full, View.readAt_full]
  exact x_read f h i2 _ _

/-- Landing the big tile is landing the result's piece. -/
theorem land_big (c : Dev nD) (t : Fin grid0.N) (ma : Memref sig .tc .vmem S1x1x1500 .f32) (mw : Memref sig .tc .vmem S128x1024 .f32)
    (fm : ma.view.ty.Contents (Elt F)) (fw : mw.view.ty.Contents (Elt F)) (A : S16x1500x128.Idx → Elt F .f32) (R : Fin 5 → Fin 1024 → Elt F .f32)
    (G : BufOf (F := F) c hbO) (hG : StepIs c G (Ring.bk 16 t.val) A (ma.view.read (Elt F) fm) (mw.view.read (Elt F) fw) R)
    (f : S1504x128.Idx → Elt F .f32) (h : ZeroRows f) (fe : S8x1024.Idx → Elt F .f32) (he : RowsAre fe R) (fB : BufOf (F := F) c (pieceB (Ring.bk 16 t.val)))
    (eB : S2x1512x1024.Idx → Elt F .f32) :
    ptOwn c (pieceB (Ring.bk 16 t.val)) ((pieceB (Ring.bk 16 t.val)).view.writes (Elt F) fB [⟨Rect.whole S1504x1024,
      ReadAs.same.apply ((tileB (Ring.sl 2 t.val)).view.read (Elt F)
        (scY.view.writes (Elt F) eB [⟨Rect.unit (s := S2x1512x1024) (k0_off18 (grid0.coords t)) S1x4x1024.size (k0_off18_inb (grid0.coords t)),
            k0_pay5 (scE.view.readAt (Elt F) (Rect.unit (s := S8x1024) ![0, 0] S4x1024.size inb_S8x1024_S4x1024_0_0).toLoadRect fe)⟩,
          ⟨Rect.unit (s := S2x1512x1024) (k0_off17 (grid0.coords t)) S1x1504x1024.size (k0_off17_inb (grid0.coords t)),
            k0_pay4 (scX.view.readAt (Elt F) (Rect.unit (s := S1504x128) ![0, 0] S1504x128.size inb_S1504x128_S1504x128_0_0).toLoadRect (scX.view.writes (Elt F) f [⟨Rect.unit (s := S1504x128) ![4, 0] S1500x128.size inb_S1504x128_S1500x128_4_0,
        k0_pay3 (scA.view.readAt (Elt F) (Rect.unit (s := S16x1500x128) (k0_off16 (grid0.coords t)) S1x1500x128.size (k0_off16_inb (grid0.coords t))).toLoadRect A)
          (ma.view.readAt (Elt F) (Rect.unit (s := S1x1x1500) ![0, 0, 0] S1x1x1500.size inb_S1x1x1500_S1x1x1500_0_0_0).toLoadRect fm)⟩]))
            (mw.view.readAt (Elt F) (Rect.unit (s := S128x1024) ![0, 0] S128x1024.size inb_S128x1024_S128x1024_0_0).toLoadRect fw)⟩]))⟩])
      = ptOwn c (pieceB (Ring.bk 16 t.val)) G := by
  refine own_congr c _ _ _ ?_
  refine (View.read_writes_whole _ _ _).trans (Eq.trans ?_ hG.big.symm)
  rw [x_loaded t ma fm A f h, View.readAt_full mw.view]
  exact tileB_stored _ eB _ _ (coff17 t) (coff18 t) _ _ _ _ _ R (rows_start fe R he _)

/-- The last tile's likewise. -/
theorem land_last (c : Dev nD) (t : Fin grid0.N) (A m w) (R : Fin 5 → Fin 1024 → Elt F .f32)
    (G : BufOf (F := F) c hbO) (hG : StepIs c G (Ring.bk 16 t.val) A m w R)
    (fe : S8x1024.Idx → Elt F .f32) (he : RowsAre fe R) (fL : BufOf (F := F) c (pieceL (Ring.bk 16 t.val)))
    (eL : S2x1512x1024.Idx → Elt F .f32) :
    ptOwn c (pieceL (Ring.bk 16 t.val)) ((pieceL (Ring.bk 16 t.val)).view.writes (Elt F) fL [⟨Rect.whole S1x1024,
      ReadAs.same.apply ((tileL (Ring.sl 2 t.val)).view.read (Elt F)
        (scY.view.writes (Elt F) eL [⟨Rect.unit (s := S2x1512x1024) (k0_off19 (grid0.coords t)) S1x1x1024.size (k0_off19_inb (grid0.coords t)),
            k0_pay1 (scE.view.readAt (Elt F) (Rect.unit (s := S8x1024) ![4, 0] S1x1024.size inb_S8x1024_S1x1024_4_0).toLoadRect fe)⟩]))⟩])
      = ptOwn c (pieceL (Ring.bk 16 t.val)) G := by
  refine own_congr c _ _ _ ?_
  refine (View.read_writes_whole _ _ _).trans (Eq.trans ?_ hG.last.symm)
  exact tileL_stored _ eL _ (coff19 t) _ _ R (rows_end fe R he _)

section Runs
variable (c : Dev nD) (t : Fin grid0.N) (ma : Memref sig .tc .vmem S1x1x1500 .f32) (hma : ma.IsWhole)
  (mw : Memref sig .tc .vmem S128x1024 .f32) (hmw : mw.IsWhole) (G : BufOf (F := F) c hbO)
  (fm : BufOf (F := F) c ma) (fw : BufOf (F := F) c mw) (A : S16x1500x128.Idx → Elt F .f32) (R : Fin 5 → Fin 1024 → Elt F .f32)

/-- What a step after the first reads and keeps: its masks and weights, the scratches, and the step's batch of the result. -/
abbrev stepPre : sProp 𝕄 :=
  iprop(ptOwn c ma fm ∗ ptOwn c mw fw ∗ (∃ fx, ⌜ZeroRows fx⌝ ∗ ptAll (F := F) c scX fx) ∗ (∃ fe, ⌜RowsAre fe R⌝ ∗ ptAll (F := F) c scE fe) ∗ ptAll (F := F) c scA A)

theorem run_mid (h1 : ¬ k0_cond1 (grid0.coords t) = 1#1) (h2 : k0_cond2 (grid0.coords t) = 1#1) (h3 : ¬ k0_cond3 (grid0.coords t) = 1#1)
    (hG : StepIs c G (Ring.bk 16 t.val) A (ma.view.read (Elt F) fm) (mw.view.read (Elt F) fw) R) (W : Waits sig Unit) (K : PUnit → sProp 𝕄) :
    iprop(stepPre c ma mw fm fw A R ∗ wahead (F := F) c (Ring.bk 16 t.val)
        ∗ winfl c G (Ring.sl 2 t.val) (Ring.bk 16 (t.val - 2)) ∗ owes (c : Thread nD τ) 0 W
        ∗ (iprop(stepPre c ma mw fm fw A R ∗ wbehind c G (Ring.bk 16 (t.val - 2)) ∗ winfl c G (Ring.sl 2 t.val) (Ring.bk 16 t.val)
            ∗ ∃ W', owes (c : Thread nD τ) 0 W') -∗ K ⟨⟩))
      ⊢ wp frame (wpE (defs₀ (F := F)) Variants.none c none) Set.univ (bodyOn t ma hma mw hmw) K := by
  unfold bodyOn
  simp only [cc0__body_eq_skeleton, k0_part3_eq_skeleton]; unfold cc0__body_skel
  iintro ⟨⟨Hm, Hw, ⟨%fx, %hx, Hx⟩, ⟨%fe, %he, He⟩, Ha⟩, ⟨⟨%fB, HpB⟩, ⟨%fL, HpL⟩⟩, ⟨⟨%eB, HFB⟩, ⟨%eL, HFL⟩⟩, HW, Hk⟩
  sl_exec
  sl_step
  iapply Hk
  isplitl [Hm Hw Hx He Ha]
  · isplitl [Hm]; · iexact Hm
    isplitl [Hw]; · iexact Hw
    isplitl [Hx]
    · iexists _
      isplitr
      swap
      · iexact Hx
      · ipureintro
        exact zeroRows_keep fx hx _ _
    isplitl [He]
    · iexists fe
      isplitr
      · ipureintro; exact he
      · iexact He
    iexact Ha
  isplitl [HFB_dst HFL_dst]
  · isplitl [HFB_dst]
    · iexact HFB_dst
    · iexact HFL_dst
  isplitl [HFB HFL]
  · isplitl [HFB]
    · iexists _
      iapply Transfers.Flight_mono countersEmb (c : Thread nD τ) (h := sep_mono (Entails.of_eq (land_big c t ma mw fm fw A R G hG fx hx fe he fB eB)) .rfl)
      iexact HFB
    · iexists _
      iapply Transfers.Flight_mono countersEmb (c : Thread nD τ) (h := sep_mono (Entails.of_eq (land_last c t A _ _ R G hG fe he fL eL)) .rfl)
      iexact HFL
  · iexists _
    iexact HW

theorem run_one (h1 : ¬ k0_cond1 (grid0.coords t) = 1#1) (h2 : ¬ k0_cond2 (grid0.coords t) = 1#1) (h3 : ¬ k0_cond3 (grid0.coords t) = 1#1)
    (hG : StepIs c G (Ring.bk 16 t.val) A (ma.view.read (Elt F) fm) (mw.view.read (Elt F) fw) R) (W : Waits sig Unit) (K : PUnit → sProp 𝕄) :
    iprop(stepPre c ma mw fm fw A R ∗ wahead (F := F) c (Ring.bk 16 t.val) ∗ wfree (F := F) c (Ring.sl 2 t.val) ∗ owes (c : Thread nD τ) 0 W
        ∗ (iprop(stepPre c ma mw fm fw A R ∗ winfl c G (Ring.sl 2 t.val) (Ring.bk 16 t.val) ∗ ∃ W', owes (c : Thread nD τ) 0 W') -∗ K ⟨⟩))
      ⊢ wp frame (wpE (defs₀ (F := F)) Variants.none c none) Set.univ (bodyOn t ma hma mw hmw) K := by
  unfold bodyOn
  simp only [cc0__body_eq_skeleton, k0_part3_eq_skeleton]; unfold cc0__body_skel
  iintro ⟨⟨Hm, Hw, ⟨%fx, %hx, Hx⟩, ⟨%fe, %he, He⟩, Ha⟩, ⟨⟨%fB, HpB⟩, ⟨%fL, HpL⟩⟩, ⟨HcB, HcL, ⟨%eB, HtB⟩, ⟨%eL, HtL⟩⟩, HW, Hk⟩
  sl_exec
  sl_step
  iapply Hk
  isplitl [Hm Hw Hx He Ha]
  · isplitl [Hm]; · iexact Hm
    isplitl [Hw]; · iexact Hw
    isplitl [Hx]
    · iexists _
      isplitr
      swap
      · iexact Hx
      · ipureintro
        exact zeroRows_keep fx hx _ _
    isplitl [He]
    · iexists fe
      isplitr
      · ipureintro; exact he
      · iexact He
    iexact Ha
  isplitl [HcB HcL]
  · isplitl [HcB]
    · iexists _
      iapply Transfers.Flight_mono countersEmb (c : Thread nD τ) (h := sep_mono (Entails.of_eq (land_big c t ma mw fm fw A R G hG fx hx fe he fB eB)) .rfl)
      iexact HcB
    · iexists _
      iapply Transfers.Flight_mono countersEmb (c : Thread nD τ) (h := sep_mono (Entails.of_eq (land_last c t A _ _ R G hG fe he fL eL)) .rfl)
      iexact HcL
  · iexists _
    iexact HW

theorem run_last (h1 : ¬ k0_cond1 (grid0.coords t) = 1#1) (h2 : k0_cond2 (grid0.coords t) = 1#1) (h3 : k0_cond3 (grid0.coords t) = 1#1)
    (hG : StepIs c G (Ring.bk 16 t.val) A (ma.view.read (Elt F) fm) (mw.view.read (Elt F) fw) R) (W : Waits sig Unit) (K : PUnit → sProp 𝕄) :
    iprop(stepPre c ma mw fm fw A R ∗ wahead (F := F) c (Ring.bk 16 t.val)
        ∗ winfl c G (Ring.sl 2 t.val) (Ring.bk 16 (t.val - 2)) ∗ winfl c G (Ring.sl 2 (t.val + 1)) (Ring.bk 16 (t.val - 1)) ∗ owes (c : Thread nD τ) 0 W
        ∗ (iprop(stepPre c ma mw fm fw A R ∗ wbehind c G (Ring.bk 16 t.val) ∗ wbehind c G (Ring.bk 16 (t.val - 2)) ∗ wbehind c G (Ring.bk 16 (t.val - 1))
            ∗ wfree (F := F) c (Ring.sl 2 t.val) ∗ wfree (F := F) c (Ring.sl 2 (t.val + 1)) ∗ ∃ W', owes (c : Thread nD τ) 0 W') -∗ K ⟨⟩))
      ⊢ wp frame (wpE (defs₀ (F := F)) Variants.none c none) Set.univ (bodyOn t ma hma mw hmw) K := by
  unfold bodyOn
  simp only [cc0__body_eq_skeleton, k0_part3_eq_skeleton]; unfold cc0__body_skel
  iintro ⟨⟨Hm, Hw, ⟨%fx, %hx, Hx⟩, ⟨%fe, %he, He⟩, Ha⟩, ⟨⟨%fB, HpB⟩, ⟨%fL, HpL⟩⟩, ⟨⟨%eB, HFB⟩, ⟨%eL, HFL⟩⟩, ⟨⟨%eB', HGB⟩, ⟨%eL', HGL⟩⟩, HW, Hk⟩
  sl_exec
  sl_step
  iapply Hk
  isplitl [Hm Hw Hx He Ha]
  · isplitl [Hm]; · iexact Hm
    isplitl [Hw]; · iexact Hw
    isplitl [Hx]
    · iexists _
      isplitr
      swap
      · iexact Hx
      · ipureintro
        exact zeroRows_keep fx hx _ _
    isplitl [He]
    · iexists fe
      isplitr
      · ipureintro; exact he
      · iexact He
    iexact Ha
  isplitl [HpB HpL]
  · isplitl [HpB]
    · iapply (Entails.of_eq (land_big c t ma mw fm fw A R G hG fx hx fe he fB eB))
      iexact HpB
    · iapply (Entails.of_eq (land_last c t A _ _ R G hG fe he fL eL))
      iexact HpL
  isplitl [HFB_dst HFL_dst]
  · isplitl [HFB_dst]
    · iexact HFB_dst
    · iexact HFL_dst
  isplitl [HGB_dst HGL_dst]
  · isplitl [HGB_dst]
    · iexact HGB_dst
    · iexact HGL_dst
  isplitl [HFB HFL HFB_src HFL_src]
  · isplitl [HFB]; · iexact HFB
    isplitl [HFL]; · iexact HFL
    isplitl [HFB_src]
    · iexists _; iexact HFB_src
    · iexists _; iexact HFL_src
  isplitl [HGB HGL HGB_src HGL_src]
  · isplitl [HGB]; · iexact HGB
    isplitl [HGL]; · iexact HGL
    isplitl [HGB_src]
    · iexists _; iexact HGB_src
    · iexists _; iexact HGL_src
  · iexists _
    iexact HW
end Runs

end Cert.KernelIdeal.Hand

end
-- ==== Proof.IFirst.lean ====
/- The first grid point, where the sounds, the four start rows and the end row come in.
   The five rows' places in the small buffer are held one by one, so that each copy lands in its own. -/
module

public import proofs.«01_k».proof.Proof.IBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A memref's whole buffer held at a share. -/
abbrev ptAt (c : Dev nD) {sp : Space} {S : Shape} {e : EltTy} (M : Memref sig .tc sp S e) (q : PosShare TreeShare) (f : BufOf (F := F) c M) : sProp 𝕄 :=
  M.view.loc (c : Thread nD τ) ↦{q} f

/-! ## The rows' places -/

/-- Row `r` of the rows' buffer. -/
abbrev rowE (r : ℕ) (h : ∀ a, (![r, 0] : Fin 2 → ℕ) a + S1x1024.size a ≤ S8x1024.size a) : Memref sig .tc .vmem S1x1024 .f32 :=
  scE.slice (Rect.unit (s := S8x1024) ![r, 0] S1x1024.size h) (fun _ => rfl)

theorem mem_rowE (r : ℕ) (h) (i : S8x1024.Idx) : i ∈ (rowE r h).view.set ↔ (i 0).val = r := by
  have e : (rowE r h).view.set = (Rect.unit (s := S8x1024) ![r, 0] S1x1024.size h).set := View.set_slice_whole _ _
  rw [e, Rect.mem_set_unit]
  constructor
  · intro k; have := k 0; simp at this; omega
  · intro k a
    have := (i 1).isLt
    fin_cases a <;> simp <;> first | omega | exact this

abbrev e0 : Memref sig .tc .vmem S1x1024 .f32 := rowE 0 inb_S8x1024_S1x1024_0_0
abbrev e1 : Memref sig .tc .vmem S1x1024 .f32 := rowE 1 inb_S8x1024_S1x1024_1_0
abbrev e2 : Memref sig .tc .vmem S1x1024 .f32 := rowE 2 inb_S8x1024_S1x1024_2_0
abbrev e3 : Memref sig .tc .vmem S1x1024 .f32 := rowE 3 inb_S8x1024_S1x1024_3_0
abbrev e4 : Memref sig .tc .vmem S1x1024 .f32 := rowE 4 inb_S8x1024_S1x1024_4_0
/-- What is left of the rows' buffer without its first five rows. -/
abbrev restE : Finset S8x1024.Idx := ((((Finset.univ \ e0.view.set) \ e1.view.set) \ e2.view.set) \ e3.view.set) \ e4.view.set
abbrev ptRest (c : Dev nD) (f : BufOf (F := F) c scE) : sProp 𝕄 := scE.view.loc (c : Thread nD τ) ↦[restE]{fullShare} f

theorem row_other (r s : ℕ) (hr hs) (h : r ≠ s) {i : S8x1024.Idx} (hi : i ∈ (rowE r hr).view.set) : i ∉ (rowE s hs).view.set := fun k =>
  h (((mem_rowE r hr i).1 hi).symm.trans ((mem_rowE s hs i).1 k))
theorem e1_sub : e1.view.set ⊆ Finset.univ \ e0.view.set := fun i hi =>
  Finset.mem_sdiff.2 ⟨Finset.mem_univ _, row_other 1 0 _ _ (by decide) hi⟩
theorem e2_sub : e2.view.set ⊆ (Finset.univ \ e0.view.set) \ e1.view.set := fun i hi =>
  Finset.mem_sdiff.2 ⟨Finset.mem_sdiff.2 ⟨Finset.mem_univ _, row_other 2 0 _ _ (by decide) hi⟩, row_other 2 1 _ _ (by decide) hi⟩
theorem e3_sub : e3.view.set ⊆ ((Finset.univ \ e0.view.set) \ e1.view.set) \ e2.view.set := fun i hi =>
  Finset.mem_sdiff.2 ⟨Finset.mem_sdiff.2 ⟨Finset.mem_sdiff.2 ⟨Finset.mem_univ _, row_other 3 0 _ _ (by decide) hi⟩,
    row_other 3 1 _ _ (by decide) hi⟩, row_other 3 2 _ _ (by decide) hi⟩
theorem e4_sub : e4.view.set ⊆ (((Finset.univ \ e0.view.set) \ e1.view.set) \ e2.view.set) \ e3.view.set := fun i hi =>
  Finset.mem_sdiff.2 ⟨Finset.mem_sdiff.2 ⟨Finset.mem_sdiff.2 ⟨Finset.mem_sdiff.2 ⟨Finset.mem_univ _, row_other 4 0 _ _ (by decide) hi⟩,
    row_other 4 1 _ _ (by decide) hi⟩, row_other 4 2 _ _ (by decide) hi⟩, row_other 4 3 _ _ (by decide) hi⟩

/-- The rows' buffer is its first five rows and the rest. -/
theorem rows_cut (c : Dev nD) (f : BufOf (F := F) c scE) :
    ptAll c scE f ⊢ iprop(ptOwn c e0 f ∗ ptOwn c e1 f ∗ ptOwn c e2 f ∗ ptOwn c e3 f ∗ ptOwn c e4 f ∗ ptRest c f) := by
  iintro H
  ihave H := (pointsTo_split_subset (ℓ := scE.view.loc (c : Thread nD τ)) (Finset.subset_univ (e0.view.set : Finset S8x1024.Idx))).1 $$ H
  icases H with ⟨H0, H⟩
  ihave H := (pointsTo_split_subset (ℓ := scE.view.loc (c : Thread nD τ)) e1_sub).1 $$ H
  icases H with ⟨H1, H⟩
  ihave H := (pointsTo_split_subset (ℓ := scE.view.loc (c : Thread nD τ)) e2_sub).1 $$ H
  icases H with ⟨H2, H⟩
  ihave H := (pointsTo_split_subset (ℓ := scE.view.loc (c : Thread nD τ)) e3_sub).1 $$ H
  icases H with ⟨H3, H⟩
  ihave H := (pointsTo_split_subset (ℓ := scE.view.loc (c : Thread nD τ)) e4_sub).1 $$ H
  icases H with ⟨H4, H⟩
  isplitl [H0]; · iexact H0
  isplitl [H1]; · iexact H1
  isplitl [H2]; · iexact H2
  isplitl [H3]; · iexact H3
  isplitl [H4]; · iexact H4
  iexact H

theorem pw_row (r : ℕ) (h) (f g : S8x1024.Idx → Elt F .f32) (j : Fin 1024) (hr : r < 8) :
    Finset.piecewise (rowE r h).view.set f g (ix2 (⟨r, hr⟩ : Fin 8) j) = (rowE r h).view.read (Elt F) f (ix2 0 j) := by
  refine (Finset.piecewise_eq_of_mem (rowE r h).view.set f g ((mem_rowE r h _).2 rfl)).trans ?_
  show f _ = f _
  congr 1
  exact idx2_ext (by show r = r + 1 * 0; omega) (by show j.val = 0 + 1 * j.val; omega)
theorem pw_miss (r : ℕ) (h) (f g : S8x1024.Idx → Elt F .f32) (s : Fin 8) (j : Fin 1024) (hs : s.val ≠ r) :
    Finset.piecewise (rowE r h).view.set f g (ix2 s j) = g (ix2 s j) :=
  Finset.piecewise_eq_of_notMem (rowE r h).view.set f g (fun k => hs ((mem_rowE r h _).1 k))

/-- Five rows that came in separately, and the rest, are the buffer at those rows. -/
theorem rows_join (c : Dev nD) (f0 f1 f2 f3 f4 fr : BufOf (F := F) c scE) (R : Fin 5 → Fin 1024 → Elt F .f32)
    (h0 : ∀ j, e0.view.read (Elt F) f0 (ix2 0 j) = R 0 j) (h1 : ∀ j, e1.view.read (Elt F) f1 (ix2 0 j) = R 1 j)
    (h2 : ∀ j, e2.view.read (Elt F) f2 (ix2 0 j) = R 2 j) (h3 : ∀ j, e3.view.read (Elt F) f3 (ix2 0 j) = R 3 j)
    (h4 : ∀ j, e4.view.read (Elt F) f4 (ix2 0 j) = R 4 j) :
    iprop(ptOwn c e0 f0 ∗ ptOwn c e1 f1 ∗ ptOwn c e2 f2 ∗ ptOwn c e3 f3 ∗ ptOwn c e4 f4 ∗ ptRest c fr)
      ⊢ (iprop(∃ fe, ⌜RowsAre fe R⌝ ∗ ptAll c scE fe) : sProp 𝕄) := by
  iintro ⟨H0, H1, H2, H3, H4, H⟩
  ihave H := (pointsTo_join_subset (ℓ := scE.view.loc (c : Thread nD τ)) e4_sub) $$ [H4 H]
  · isplitl [H4]; · iexact H4
    iexact H
  ihave H := (pointsTo_join_subset (ℓ := scE.view.loc (c : Thread nD τ)) e3_sub) $$ [H3 H]
  · isplitl [H3]; · iexact H3
    iexact H
  ihave H := (pointsTo_join_subset (ℓ := scE.view.loc (c : Thread nD τ)) e2_sub) $$ [H2 H]
  · isplitl [H2]; · iexact H2
    iexact H
  ihave H := (pointsTo_join_subset (ℓ := scE.view.loc (c : Thread nD τ)) e1_sub) $$ [H1 H]
  · isplitl [H1]; · iexact H1
    iexact H
  ihave H := (pointsTo_join_subset (ℓ := scE.view.loc (c : Thread nD τ)) (Finset.subset_univ (e0.view.set : Finset S8x1024.Idx))) $$ [H0 H]
  · isplitl [H0]; · iexact H0
    iexact H
  iexists _
  isplitr
  swap
  · iexact H
  · ipureintro
    intro r j
    fin_cases r
    · exact (pw_row 0 _ f0 _ j (by decide)).trans (h0 j)
    · exact (pw_miss 0 _ f0 _ 1 j (by decide)).trans ((pw_row 1 _ f1 _ j (by decide)).trans (h1 j))
    · exact (pw_miss 0 _ f0 _ 2 j (by decide)).trans ((pw_miss 1 _ f1 _ 2 j (by decide)).trans ((pw_row 2 _ f2 _ j (by decide)).trans (h2 j)))
    · exact (pw_miss 0 _ f0 _ 3 j (by decide)).trans ((pw_miss 1 _ f1 _ 3 j (by decide)).trans ((pw_miss 2 _ f2 _ 3 j (by decide)).trans
        ((pw_row 3 _ f3 _ j (by decide)).trans (h3 j))))
    · exact (pw_miss 0 _ f0 _ 4 j (by decide)).trans ((pw_miss 1 _ f1 _ 4 j (by decide)).trans ((pw_miss 2 _ f2 _ 4 j (by decide)).trans
        ((pw_miss 3 _ f3 _ 4 j (by decide)).trans ((pw_row 4 _ f4 _ j (by decide)).trans (h4 j)))))

/-! ## The run -/

/-- The sounds' copy holds the sounds. -/
theorem sounds_whole (A fA : S16x1500x128.Idx → Elt F .f32) :
    View.write (Elt F) scA.view fA (ReadAs.same.apply (hbS.view.read (Elt F) A)) Finset.univ = A := by
  exact View.write_whole_univ cc0_scratch3 _ _

/-- Landing the first big tile: its sounds are the copy just made, its masked rows stored over the zeros of the same step. -/
theorem land_start (c : Dev nD) (t : Fin grid0.N) (ma : Memref sig .tc .vmem S1x1x1500 .f32) (mw : Memref sig .tc .vmem S128x1024 .f32)
    (fm : ma.view.ty.Contents (Elt F)) (fw : mw.view.ty.Contents (Elt F)) (A fA : S16x1500x128.Idx → Elt F .f32) (R : Fin 5 → Fin 1024 → Elt F .f32)
    (G : BufOf (F := F) c hbO) (hG : StepIs c G (Ring.bk 16 t.val) A (ma.view.read (Elt F) fm) (mw.view.read (Elt F) fw) R)
    (fe : S8x1024.Idx → Elt F .f32) (he : RowsAre fe R) (fB : BufOf (F := F) c (pieceB (Ring.bk 16 t.val)))
    (eB : S2x1512x1024.Idx → Elt F .f32) :
    ptOwn c (pieceB (Ring.bk 16 t.val)) ((pieceB (Ring.bk 16 t.val)).view.writes (Elt F) fB [⟨Rect.whole S1504x1024,
      ReadAs.same.apply ((tileB (Ring.sl 2 t.val)).view.read (Elt F)
        (scY.view.writes (Elt F) eB [⟨Rect.unit (s := S2x1512x1024) (k0_off18 (grid0.coords t)) S1x4x1024.size (k0_off18_inb (grid0.coords t)),
            k0_pay5 (scE.view.readAt (Elt F) (Rect.unit (s := S8x1024) ![0, 0] S4x1024.size inb_S8x1024_S4x1024_0_0).toLoadRect fe)⟩,
          ⟨Rect.unit (s := S2x1512x1024) (k0_off17 (grid0.coords t)) S1x1504x1024.size (k0_off17_inb (grid0.coords t)),
            k0_pay4 (scX.view.readCov [⟨Rect.unit (s := S1504x128) ![4, 0] S1500x128.size inb_S1504x128_S1500x128_4_0,
              k0_pay3 (scA.view.readAt (Elt F) (Rect.unit (s := S16x1500x128) (k0_off16 (grid0.coords t)) S1x1500x128.size (k0_off16_inb (grid0.coords t))).toLoadRect
                  (View.write (Elt F) scA.view fA (ReadAs.same.apply (hbS.view.read (Elt F) A)) Finset.univ))
                (ma.view.readAt (Elt F) (Rect.unit (s := S1x1x1500) ![0, 0, 0] S1x1x1500.size inb_S1x1x1500_S1x1x1500_0_0_0).toLoadRect fm)⟩,
              ⟨Rect.unit (s := S1504x128) ![0, 0] S4x128.size inb_S1504x128_S4x128_0_0, k0_pay2⟩]
                (Rect.unit (s := S1504x128) ![0, 0] S1504x128.size inb_S1504x128_S1504x128_0_0).toLoadRect)
            (mw.view.readAt (Elt F) (Rect.unit (s := S128x1024) ![0, 0] S128x1024.size inb_S128x1024_S128x1024_0_0).toLoadRect fw)⟩]))⟩])
      = ptOwn c (pieceB (Ring.bk 16 t.val)) G := by
  rw [sounds_whole]
  exact land_big c t ma mw fm fw A R G hG
    (scX.view.writes (Elt F) scX.view.junk [⟨Rect.unit (s := S1504x128) ![0, 0] S4x128.size inb_S1504x128_S4x128_0_0, k0_pay2⟩])
    (zeroRows_init _ _) fe he fB eB

/-- The first step: five rows and the sounds come in, and the step's own tile goes out. -/
theorem run_first (c : Dev nD) (t : Fin grid0.N) (ma : Memref sig .tc .vmem S1x1x1500 .f32) (hma : ma.IsWhole)
  (mw : Memref sig .tc .vmem S128x1024 .f32) (hmw : mw.IsWhole) (G : BufOf (F := F) c hbO)
  (fm : BufOf (F := F) c ma) (fw : BufOf (F := F) c mw) (A : S16x1500x128.Idx → Elt F .f32) (R : Fin 5 → Fin 1024 → Elt F .f32)
   (h1 : k0_cond1 (grid0.coords t) = 1#1) (h2 : ¬ k0_cond2 (grid0.coords t) = 1#1) (h3 : ¬ k0_cond3 (grid0.coords t) = 1#1)
    (tS : BufOf (F := F) c smS) (tE : BufOf (F := F) c smE) (fx : BufOf (F := F) c scX) (fe : BufOf (F := F) c scE) (fA : BufOf (F := F) c scA)
    (T : BufOf (F := F) c hbE) (q q1 q2 q3 q4 q5 : PosShare TreeShare)
    (W : Waits sig Unit) (K : PUnit → sProp 𝕄)
    (hk1 : k0_chk1 (grid0.coords t) (View.readAt (Elt F) smS.view (Rect.unit (s := S4) ![0] S1.size inb_S4_S1_0).toLoadRect tS (Shape.Idx.first (numel1_S1.symm ▸ Nat.one_pos))))
    (hk2 : k0_chk2 (grid0.coords t) (View.readAt (Elt F) smS.view (Rect.unit (s := S4) ![1] S1.size inb_S4_S1_1).toLoadRect tS (Shape.Idx.first (numel1_S1.symm ▸ Nat.one_pos))))
    (hk3 : k0_chk3 (grid0.coords t) (View.readAt (Elt F) smS.view (Rect.unit (s := S4) ![2] S1.size inb_S4_S1_2).toLoadRect tS (Shape.Idx.first (numel1_S1.symm ▸ Nat.one_pos))))
    (hk4 : k0_chk4 (grid0.coords t) (View.readAt (Elt F) smS.view (Rect.unit (s := S4) ![3] S1.size inb_S4_S1_3).toLoadRect tS (Shape.Idx.first (numel1_S1.symm ▸ Nat.one_pos))))
    (hk5 : k0_chk5 (grid0.coords t) (View.readAt (Elt F) smE.view (Rect.unit (s := S1) ![0] S1.size inb_S1_S1_0).toLoadRect tE (Shape.Idx.first (numel1_S1.symm ▸ Nat.one_pos))))
    (hG : StepIs c G (Ring.bk 16 t.val) A (ma.view.read (Elt F) fm) (mw.view.read (Elt F) fw) R)
    (hR0 : ∀ j, (hbE.slice (Rect.unit (s := S100000x1024) (k0_off1 (View.readAt (Elt F) smS.view (Rect.unit (s := S4) ![0] S1.size inb_S4_S1_0).toLoadRect tS (Shape.Idx.first (numel1_S1.symm ▸ Nat.one_pos)))) S1x1024.size (k0_off1_inb _ _ hk1 h1)) (fun _ => rfl)).view.read (Elt F) T (ix2 0 j) = R 0 j)
    (hR1 : ∀ j, (hbE.slice (Rect.unit (s := S100000x1024) (k0_off2 (View.readAt (Elt F) smS.view (Rect.unit (s := S4) ![1] S1.size inb_S4_S1_1).toLoadRect tS (Shape.Idx.first (numel1_S1.symm ▸ Nat.one_pos)))) S1x1024.size (k0_off2_inb _ _ hk2 h1)) (fun _ => rfl)).view.read (Elt F) T (ix2 0 j) = R 1 j)
    (hR2 : ∀ j, (hbE.slice (Rect.unit (s := S100000x1024) (k0_off3 (View.readAt (Elt F) smS.view (Rect.unit (s := S4) ![2] S1.size inb_S4_S1_2).toLoadRect tS (Shape.Idx.first (numel1_S1.symm ▸ Nat.one_pos)))) S1x1024.size (k0_off3_inb _ _ hk3 h1)) (fun _ => rfl)).view.read (Elt F) T (ix2 0 j) = R 2 j)
    (hR3 : ∀ j, (hbE.slice (Rect.unit (s := S100000x1024) (k0_off4 (View.readAt (Elt F) smS.view (Rect.unit (s := S4) ![3] S1.size inb_S4_S1_3).toLoadRect tS (Shape.Idx.first (numel1_S1.symm ▸ Nat.one_pos)))) S1x1024.size (k0_off4_inb _ _ hk4 h1)) (fun _ => rfl)).view.read (Elt F) T (ix2 0 j) = R 3 j)
    (hR4 : ∀ j, (hbE.slice (Rect.unit (s := S100000x1024) (k0_off5 (View.readAt (Elt F) smE.view (Rect.unit (s := S1) ![0] S1.size inb_S1_S1_0).toLoadRect tE (Shape.Idx.first (numel1_S1.symm ▸ Nat.one_pos)))) S1x1024.size (k0_off5_inb _ _ hk5 h1)) (fun _ => rfl)).view.read (Elt F) T (ix2 0 j) = R 4 j)
    (_plan : Transfers.BatchOf (c : Thread nD τ) (cellR 0 2) 4 (windows := true)) :
    iprop(ptOwn c ma fm ∗ ptOwn c mw fw ∗ ptAll c scX fx ∗ ptOwn c e0 fe ∗ ptOwn c e1 fe ∗ ptOwn c e2 fe ∗ ptOwn c e3 fe ∗ ptOwn c e4 fe ∗ ptRest c fe ∗ ptAll c scA fA ∗ ptAll c hbS A ∗ ptAt c hbE q1 T ∗ ptAt c hbE q2 T ∗ ptAt c hbE q3 T ∗ ptAt c hbE q4 T ∗ ptAt c hbE q5 T
        ∗ ptAt c smS q tS ∗ ptAt c smE q tE
        ∗ cellP c 0 2 ∗ cellP c 0 3 ∗ cellP c 1 2
        ∗ wahead (F := F) c (Ring.bk 16 t.val) ∗ wfree (F := F) c (Ring.sl 2 t.val) ∗ owes (c : Thread nD τ) 0 W
        ∗ (iprop(stepPre c ma mw fm fw A R ∗ winfl c G (Ring.sl 2 t.val) (Ring.bk 16 t.val) ∗ ptAll c hbS A ∗ ptAt c hbE q1 T ∗ ptAt c hbE q2 T ∗ ptAt c hbE q3 T ∗ ptAt c hbE q4 T ∗ ptAt c hbE q5 T ∗ ptAt c smS q tS ∗ ptAt c smE q tE ∗ cellP c 0 2 ∗ cellP c 0 3 ∗ cellP c 1 2
        ∗ ∃ W', owes (c : Thread nD τ) 0 W') -∗ K ⟨⟩))
      ⊢ wp frame (wpE (defs₀ (F := F)) Variants.none c none) Set.univ (bodyOn t ma hma mw hmw) K := by
  unfold bodyOn
  simp only [cc0__body_eq_skeleton, k0_part3_eq_skeleton, k0_part1_eq_skeleton, k0_part2_eq_skeleton]; unfold cc0__body_skel
  iintro ⟨Hm, Hw, Hx, He0, He1, He2, He3, He4, He, Ha, HS, HT1, HT2, HT3, HT4, HT5, HtS, HtE, Hc02, Hc03, Hc12, ⟨⟨%fB, HpB⟩, ⟨%fL, HpL⟩⟩, ⟨HcB, HcL, ⟨%eB, HtB⟩, ⟨%eL, HtL⟩⟩, HW, Hk⟩
  sl_exec
  ihave He := (rows_join c _ _ _ _ _ fe R (fun j => (congrFun (View.read_writes_whole _ _ _) _).trans (hR0 j)) (fun j => (congrFun (View.read_writes_whole _ _ _) _).trans (hR1 j))
    (fun j => (congrFun (View.read_writes_whole _ _ _) _).trans (hR2 j)) (fun j => (congrFun (View.read_writes_whole _ _ _) _).trans (hR3 j)) (fun j => (congrFun (View.read_writes_whole _ _ _) _).trans (hR4 j))) $$ [He0 He1 He2 He3 He4 He]
  · isplitl [He0]; · iexact He0
    isplitl [He1]; · iexact He1
    isplitl [He2]; · iexact He2
    isplitl [He3]; · iexact He3
    isplitl [He4]; · iexact He4
    iexact He
  icases He with ⟨%fe', %he, He⟩
  sl_exec
  sl_step
  have hA : View.write (Elt F) scA.view fA (ReadAs.same.apply (hbS.view.read (Elt F) A)) Finset.univ = A := sounds_whole A fA
  iapply Hk
  isplitl [Hm Hw Hx He Ha]
  · isplitl [Hm]; · iexact Hm
    isplitl [Hw]; · iexact Hw
    isplitl [Hx]
    · iexists _
      isplitr
      swap
      · iexact Hx
      · ipureintro
        exact zeroRows_keep _ (zeroRows_init fx _) _ _
    isplitl [He]
    · iexists fe'
      isplitr
      · ipureintro; exact he
      · iexact He
    iapply (Entails.of_eq (congrArg (fun f => ptAll (F := F) c scA f) hA))
    iexact Ha
  isplitl [HcB HcL]
  · isplitl [HcB]
    · iexists _
      iapply Transfers.Flight_mono countersEmb (c : Thread nD τ) (h := sep_mono (Entails.of_eq (land_start c t ma mw fm fw A fA R G hG fe' he fB eB)) .rfl)
      iexact HcB
    · iexists _
      iapply Transfers.Flight_mono countersEmb (c : Thread nD τ) (h := sep_mono (Entails.of_eq (land_last c t A _ _ R G hG fe' he fL eL)) .rfl)
      iexact HcL
  isplitl [HS]; · iexact HS
  isplitl [HT1]; · iexact HT1
  isplitl [HT2]; · iexact HT2
  isplitl [HT3]; · iexact HT3
  isplitl [HT4]; · iexact HT4
  isplitl [HT5]; · iexact HT5
  isplitl [HtS]; · iexact HtS
  isplitl [HtE]; · iexact HtE
  isplitl [Hc02]; · iexact Hc02
  isplitl [Hc03]; · iexact Hc03
  isplitl [Hc12]; · iexact Hc12
  iexists _
  iexact HW

end Cert.KernelIdeal.Hand

end
-- ==== Proof.IPieces.lean ====
/-
  The buffers cut as the steps take them, and joined again: the result into its sixteen batches of two pieces each, the slots
  into the tiles of the two groups and the rows no step touches, the embedding table into five shares.
-/
module

public import proofs.«01_k».proof.Proof.IFirst

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Which elements a piece has -/

theorem mem_pieceB (u : Fin 16) (i : S16x1505x1024.Idx) : i ∈ pieceBSet u ↔ (i 0).val = u.val ∧ (i 1).val < 1504 := by
  rw [Rect.mem_set_unit]
  constructor
  · intro k; have k0 := k 0; have k1 := k 1; simp at k0 k1; omega
  · intro k a
    have := (i 2).isLt
    fin_cases a <;> simp <;> first | omega | exact this
theorem mem_pieceL (u : Fin 16) (i : S16x1505x1024.Idx) : i ∈ pieceLSet u ↔ (i 0).val = u.val ∧ (i 1).val = 1504 := by
  rw [Rect.mem_set_unit]
  constructor
  · intro k; have k0 := k 0; have k1 := k 1; simp at k0 k1; omega
  · intro k a
    have := (i 2).isLt
    fin_cases a <;> simp <;> first | omega | exact this
theorem mem_tileB (g : Fin 2) (i : S2x1512x1024.Idx) : i ∈ tileBSet g ↔ (i 0).val = g.val ∧ (i 1).val < 1504 := by
  rw [Rect.mem_set_unit]
  constructor
  · intro k; have k0 := k 0; have k1 := k 1; simp at k0 k1; omega
  · intro k a
    have := (i 2).isLt
    fin_cases a <;> simp <;> first | omega | exact this
theorem mem_tileL (g : Fin 2) (i : S2x1512x1024.Idx) : i ∈ tileLSet g ↔ (i 0).val = g.val ∧ (i 1).val = 1504 := by
  rw [Rect.mem_set_unit]
  constructor
  · intro k; have k0 := k 0; have k1 := k 1; simp at k0 k1; omega
  · intro k a
    have := (i 2).isLt
    fin_cases a <;> simp <;> first | omega | exact this

/-- A batch of the result: its two pieces. A group of the slots: its two tiles. -/
abbrev batchSet (u : Fin 16) : Finset S16x1505x1024.Idx := pieceBSet u ∪ pieceLSet u
abbrev groupSet (g : Fin 2) : Finset S2x1512x1024.Idx := tileBSet g ∪ tileLSet g
theorem mem_batch (u : Fin 16) (i : S16x1505x1024.Idx) : i ∈ batchSet u ↔ (i 0).val = u.val := by
  have h1 : (i 1).val < 1505 := (i 1).isLt
  rw [Finset.mem_union, mem_pieceB, mem_pieceL]; omega
theorem mem_group (g : Fin 2) (i : S2x1512x1024.Idx) : i ∈ groupSet g ↔ (i 0).val = g.val ∧ (i 1).val < 1505 := by
  rw [Finset.mem_union, mem_tileB, mem_tileL]; omega
theorem batch_disj (u v : Fin 16) (h : u ≠ v) : Disjoint (batchSet u) (batchSet v) :=
  Finset.disjoint_left.2 fun i hu hv => h (Fin.ext (((mem_batch u i).1 hu).symm.trans ((mem_batch v i).1 hv)))
theorem group_disj (u v : Fin 2) (h : u ≠ v) : Disjoint (groupSet u) (groupSet v) :=
  Finset.disjoint_left.2 fun i hu hv => h (Fin.ext (((mem_group u i).1 hu).1.symm.trans ((mem_group v i).1 hv).1))
theorem batch_cover : Finset.univ.biUnion batchSet = Finset.univ := by
  ext i
  simp only [Finset.mem_biUnion, Finset.mem_univ, true_and, iff_true]
  exact ⟨⟨(i 0).val, (i 0).isLt⟩, (mem_batch _ i).2 rfl⟩
theorem batch_rest (u : Fin 16) : batchSet u \ pieceBSet u = pieceLSet u := by
  ext i; rw [Finset.mem_sdiff, mem_batch, mem_pieceB, mem_pieceL]
  have h1 : (i 1).val < 1505 := (i 1).isLt
  omega
theorem group_rest (g : Fin 2) : groupSet g \ tileBSet g = tileLSet g := by
  ext i; rw [Finset.mem_sdiff, mem_group, mem_tileB, mem_tileL]; omega

/-- The rows of the slots no step touches. -/
abbrev spareSet : Finset S2x1512x1024.Idx := Finset.univ \ Finset.univ.biUnion groupSet

/-! ## The result, cut into batches -/

section Cuts
variable (c : Dev nD)

theorem batch_eq (u : Fin 16) (f : BufOf (F := F) c hbO) :
    ((hbO.view.loc (c : Thread nD τ)) ↦[batchSet u]{fullShare} f : sProp 𝕄) = iprop(ptOwn (F := F) c (pieceB u) f ∗ ptOwn (F := F) c (pieceL u) f) := by
  refine Eq.trans ?_ (congrArg₂ (fun P Q : sProp 𝕄 => iprop(P ∗ Q)) (pieceB_pt c u f).symm (pieceL_pt c u f).symm)
  have h := pointsTo_split_subset (Ix := Unit) (Name := ℕ) (U := Pipeline.UD sig nD τ) (Lvl := ℕ) (Val := Elt F) (ℓ := hbO.view.loc (c : Thread nD τ)) (q := fullShare) (f := f) (Finset.subset_union_left : pieceBSet u ⊆ batchSet u)
  rw [batch_rest] at h
  exact Entails.antisymm h.1 h.2

theorem ahead_intro (u : Fin 16) (f : BufOf (F := F) c hbO) : iprop(ptOwn (F := F) c (pieceB u) f ∗ ptOwn (F := F) c (pieceL u) f) ⊢ wahead (F := F) c u := by
  iintro ⟨H1, H2⟩
  isplitl [H1]
  · iexists f; iexact H1
  · iexists f; iexact H2

theorem result_cut (f : BufOf (F := F) c hbO) : ptAll c hbO f ⊢ (bigSep Finset.univ (wahead (F := F) c) : sProp 𝕄) := by
  unfold ptAll
  rw [Ring.pointsTo_blocks batchSet batch_disj batch_cover]
  exact BI.bigSep_mono fun u _ => (Entails.of_eq (batch_eq c u f)).trans (ahead_intro c u f)

theorem result_join (G : BufOf (F := F) c hbO) : (bigSep Finset.univ (wbehind (F := F) c G) : sProp 𝕄) ⊢ ptAll c hbO G := by
  unfold ptAll
  rw [Ring.pointsTo_blocks batchSet batch_disj batch_cover]
  exact BI.bigSep_mono fun u _ => Entails.of_eq (batch_eq c u G).symm

/-! ## The slots, cut into tiles -/

abbrev ptSpare (f : BufOf (F := F) c scY) : sProp 𝕄 := scY.view.loc (c : Thread nD τ) ↦[spareSet]{fullShare} f
abbrev tilesOf (g : Fin 2) : sProp 𝕄 := iprop((∃ e, ptOwn (F := F) c (tileB g) e) ∗ ∃ e, ptOwn (F := F) c (tileL g) e)

theorem group_cut (g : Fin 2) (f : BufOf (F := F) c scY) :
    ((scY.view.loc (c : Thread nD τ)) ↦[groupSet g]{fullShare} f : sProp 𝕄) ⊢ tilesOf (F := F) c g := by
  have h := pointsTo_split_subset (Ix := Unit) (Name := ℕ) (U := Pipeline.UD sig nD τ) (Lvl := ℕ) (Val := Elt F) (ℓ := scY.view.loc (c : Thread nD τ)) (q := fullShare) (f := f) (Finset.subset_union_left : tileBSet g ⊆ groupSet g)
  rw [group_rest] at h
  refine h.1.trans ?_
  iintro ⟨H1, H2⟩
  isplitl [H1]
  · iexists f; iapply (Entails.of_eq (tileB_pt c g f).symm); iexact H1
  · iexists f; iapply (Entails.of_eq (tileL_pt c g f).symm); iexact H2

theorem group_join (g : Fin 2) :
    tilesOf (F := F) c g ⊢ (iprop(∃ f, (scY.view.loc (c : Thread nD τ)) ↦[groupSet g]{fullShare} f) : sProp 𝕄) := by
  iintro ⟨⟨%e, H1⟩, ⟨%e', H2⟩⟩
  have hj := pointsTo_join_subset (Ix := Unit) (Name := ℕ) (U := Pipeline.UD sig nD τ) (Lvl := ℕ) (ℓ := scY.view.loc (c : Thread nD τ)) (q := fullShare) (f := e') (g := e) (Finset.subset_union_left : tileBSet g ⊆ groupSet g)
  rw [group_rest] at hj
  ihave H1 := (Entails.of_eq (tileB_pt c g e)) $$ H1
  ihave H2 := (Entails.of_eq (tileL_pt c g e')) $$ H2
  iexists _
  iapply hj
  isplitl [H1]; · iexact H1
  iexact H2

theorem slots_cut (f : BufOf (F := F) c scY) : ptAll c scY f ⊢ iprop(tilesOf (F := F) c 0 ∗ tilesOf (F := F) c 1 ∗ ∃ e, ptSpare (F := F) c e) := by
  iintro H
  ihave H := (pointsTo_split_subset (ℓ := scY.view.loc (c : Thread nD τ)) (Finset.subset_univ (Finset.univ.biUnion groupSet))).1 $$ H
  icases H with ⟨H, Hs⟩
  ihave H := (Entails.of_eq ((Ring.pointsTo_sub_blocks (ℓ := scY.view.loc (c : Thread nD τ)) groupSet group_disj (Finset.univ.biUnion groupSet) rfl f).trans (Ring.bigSep_fin2 _))) $$ H
  icases H with ⟨H0, H1⟩
  isplitl [H0]; · iapply (group_cut c 0 f); iexact H0
  isplitl [H1]; · iapply (group_cut c 1 f); iexact H1
  iexists f; iexact Hs

theorem slots_join (f₀ : BufOf (F := F) c scY) : iprop(tilesOf (F := F) c 0 ∗ tilesOf (F := F) c 1 ∗ ∃ e, ptSpare (F := F) c e) ⊢ (iprop(∃ f, ptAll (F := F) c scY f) : sProp 𝕄) := by
  iintro ⟨H0, H1, ⟨%e, Hs⟩⟩
  ihave H0 := (group_join c 0) $$ H0
  ihave H1 := (group_join c 1) $$ H1
  ihave H := ((Entails.of_eq (Ring.bigSep_fin2 (fun g => iprop(∃ f, (scY.view.loc (c : Thread nD τ)) ↦[groupSet g]{fullShare} f : sProp 𝕄))).symm).trans
    (Ring.pointsTo_sub_blocks_join_exists (ℓ := scY.view.loc (c : Thread nD τ)) groupSet group_disj (Finset.univ.biUnion groupSet) rfl f₀)) $$ [H0 H1]
  · isplitl [H0]; · iexact H0
    iexact H1
  icases H with ⟨%f, H⟩
  iexists _
  iapply (pointsTo_join_subset (ℓ := scY.view.loc (c : Thread nD τ)) (Finset.subset_univ (Finset.univ.biUnion groupSet)))
  isplitl [H]; · iexact H
  iexact Hs

/-! ## The embedding table at five shares -/

/-- The five shares the step's five row copies take of the table. -/
abbrev qa : PosShare TreeShare := fullShare.left
abbrev qb : PosShare TreeShare := fullShare.right.left
abbrev qc : PosShare TreeShare := fullShare.right.right.left
abbrev qd : PosShare TreeShare := fullShare.right.right.right.left
abbrev qe : PosShare TreeShare := fullShare.right.right.right.right

theorem table_five (T : BufOf (F := F) c hbE) :
    ptAll c hbE T ⊣⊢ iprop(ptAt c hbE qa T ∗ ptAt c hbE qb T ∗ ptAt c hbE qc T ∗ ptAt c hbE qd T ∗ ptAt c hbE qe T) := by
  constructor
  · iintro H
    ihave H := (pointsTo_share (PosShare.mem_left_op_right fullShare)).1 $$ H
    icases H with ⟨H1, H⟩
    ihave H := (pointsTo_share (PosShare.mem_left_op_right fullShare.right)).1 $$ H
    icases H with ⟨H2, H⟩
    ihave H := (pointsTo_share (PosShare.mem_left_op_right fullShare.right.right)).1 $$ H
    icases H with ⟨H3, H⟩
    ihave H := (pointsTo_share (PosShare.mem_left_op_right fullShare.right.right.right)).1 $$ H
    icases H with ⟨H4, H⟩
    isplitl [H1]; · iexact H1
    isplitl [H2]; · iexact H2
    isplitl [H3]; · iexact H3
    isplitl [H4]; · iexact H4
    iexact H
  · iintro ⟨H1, H2, H3, H4, H5⟩
    iapply (pointsTo_share (PosShare.mem_left_op_right fullShare)).2
    isplitl [H1]; · iexact H1
    iapply (pointsTo_share (PosShare.mem_left_op_right fullShare.right)).2
    isplitl [H2]; · iexact H2
    iapply (pointsTo_share (PosShare.mem_left_op_right fullShare.right.right)).2
    isplitl [H3]; · iexact H3
    iapply (pointsTo_share (PosShare.mem_left_op_right fullShare.right.right.right)).2
    isplitl [H4]; · iexact H4
    iexact H5

end Cuts

end Cert.KernelIdeal.Hand

end
-- ==== Proof.IStep.lean ====
/-
  What the kernel holds before step `k`, and that every step takes it to what it holds before step `k + 1`. It holds: the two
  slots' ring; from step 1 on the masked sounds' buffer with its first four rows zero, the five embedding rows the ids name,
  and all the sounds; the rows of the slots no step touches; the cells of the copies in, at zero; the sounds and the embedding
  table left in place; and the two tables of ids.
-/
module

public import proofs.«01_k».proof.Proof.IPieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The embedding rows the ids name -/

theorem word_S (c : Dev nD) (k : ℕ) (h) (p) (hk : k < 4) (tS : BufOf (F := F) c smS) :
    View.readAt (Elt F) smS.view (Rect.unit (s := S4) ![k] S1.size h).toLoadRect tS (Shape.Idx.first p) = tS (ix1 (⟨k, hk⟩ : Fin 4)) := by
  show tS _ = tS _
  congr 1
  funext a
  fin_cases a
  rfl
theorem word_E (c : Dev nD) (h) (p) (tE : BufOf (F := F) c smE) :
    View.readAt (Elt F) smE.view (Rect.unit (s := S1) ![0] S1.size h).toLoadRect tE (Shape.Idx.first p) = tE (ix1 (0 : Fin 1)) := by
  show tE _ = tE _
  congr 1
  funext a
  fin_cases a
  rfl

/-- Row `n` of the embedding table. -/
def rowAt (T : S100000x1024.Idx → Elt F .f32) (n : ℕ) (j : Fin 1024) : Elt F .f32 :=
  T (ix2 (⟨n % 100000, Nat.mod_lt _ (by decide)⟩ : Fin 100000) j)
/-- The five ids: the four start ids, then the end id. -/
def idOf (tS : S4.Idx → BitVec 32) (tE : S1.Idx → BitVec 32) (r : Fin 5) : ℕ :=
  if h : r.val < 4 then (tS (ix1 (⟨r.val, h⟩ : Fin 4))).toNat else (tE (ix1 (0 : Fin 1))).toNat
/-- Every id names a row of the table. -/
def IdsOk (tS : S4.Idx → BitVec 32) (tE : S1.Idx → BitVec 32) : Prop := ∀ r, idOf tS tE r < 100000
/-- The five rows. -/
def embR (T : S100000x1024.Idx → Elt F .f32) (tS : S4.Idx → BitVec 32) (tE : S1.Idx → BitVec 32) : Fin 5 → Fin 1024 → Elt F .f32 :=
  fun r j => rowAt T (idOf tS tE r) j

theorem row_read (c : Dev nD) (T : BufOf (F := F) c hbE) (o : Fin 2 → ℕ) (n : ℕ) (ho : o = ![n, 0]) (h) (hn : n < 100000) (j : Fin 1024) :
    (hbE.slice (Rect.unit (s := S100000x1024) o S1x1024.size h) (fun _ => rfl)).view.read (Elt F) T (ix2 0 j) = rowAt (F := F) T n j := by
  subst ho
  show T _ = T _
  congr 1
  exact idx2_ext (by show n + 1 * 0 = n % 100000; rw [Nat.mod_eq_of_lt hn]; omega) (by show 0 + 1 * j.val = j.val; omega)

theorem row_inb (n : ℕ) (h : n < 100000) : ∀ a, (![n, 0] : Fin 2 → ℕ) a + S1x1024.size a ≤ S100000x1024.size a := by
  intro a; fin_cases a
  · show n + 1 ≤ 100000; omega
  · show 0 + 1024 ≤ 1024; omega
theorem chk_ok1 (i : grid0.Coords) (v : BitVec 32) (h : v.toNat < 100000) : k0_chk1 i v := by
  refine ⟨fun _ => ?_, fun _ => ?_⟩ <;> exact row_inb _ h
theorem chk_ok2 (i : grid0.Coords) (v : BitVec 32) (h : v.toNat < 100000) : k0_chk2 i v := by
  refine ⟨fun _ => ?_, fun _ => ?_⟩ <;> exact row_inb _ h
theorem chk_ok3 (i : grid0.Coords) (v : BitVec 32) (h : v.toNat < 100000) : k0_chk3 i v := by
  refine ⟨fun _ => ?_, fun _ => ?_⟩ <;> exact row_inb _ h
theorem chk_ok4 (i : grid0.Coords) (v : BitVec 32) (h : v.toNat < 100000) : k0_chk4 i v := by
  refine ⟨fun _ => ?_, fun _ => ?_⟩ <;> exact row_inb _ h
theorem chk_ok5 (i : grid0.Coords) (v : BitVec 32) (h : v.toNat < 100000) : k0_chk5 i v := by
  exact fun _ => row_inb _ h

section Step
variable (c : Dev nD) (G : BufOf (F := F) c hbO) (A : S16x1500x128.Idx → Elt F .f32) (T : BufOf (F := F) c hbE)
  (tS : BufOf (F := F) c smS) (tE : BufOf (F := F) c smE)

abbrev RR : Fin 5 → Fin 1024 → Elt F .f32 := embR (F := F) T tS tE

/-! ## What is held before step `k` -/

/-- The three scratch buffers the first step fills. -/
def scr (k : ℕ) : sProp 𝕄 :=
  if k = 0 then iprop((∃ f, ptAll (F := F) c scX f) ∗ (∃ f, ptAll (F := F) c scE f) ∗ ∃ f, ptAll (F := F) c scA f)
  else iprop((∃ fx, ⌜ZeroRows fx⌝ ∗ ptAll (F := F) c scX fx) ∗ (∃ fe, ⌜RowsAre fe (RR c T tS tE)⌝ ∗ ptAll (F := F) c scE fe) ∗ ptAll (F := F) c scA A)
theorem scr_zero (k : ℕ) (h : k = 0) : scr c A T tS tE k = iprop((∃ f, ptAll (F := F) c scX f) ∗ (∃ f, ptAll (F := F) c scE f) ∗ ∃ f, ptAll (F := F) c scA f) := if_pos h
theorem scr_pos (k : ℕ) (h : k ≠ 0) : scr c A T tS tE k
    = iprop((∃ fx, ⌜ZeroRows fx⌝ ∗ ptAll (F := F) c scX fx) ∗ (∃ fe, ⌜RowsAre fe (RR c T tS tE)⌝ ∗ ptAll (F := F) c scE fe) ∗ ptAll (F := F) c scA A) := if_neg h

/-- What every step finds and leaves. -/
abbrev kept : sProp 𝕄 :=
  iprop((∃ e, ptSpare (F := F) c e) ∗ cellP (F := F) c 0 2 ∗ cellP (F := F) c 0 3 ∗ cellP (F := F) c 1 2 ∗ cellP (F := F) c 1 3
    ∗ ptAll (F := F) c hbS A ∗ ptAll c hbE T ∗ ptAt c smS fullShare.right tS ∗ ptAt c smE fullShare.right tE ∗ ∃ r, prngReg c r)

def stepInv (k : ℕ) : sProp 𝕄 := iprop(wring c G k ∗ scr c A T tS tE k ∗ kept c A T tS tE)

variable (t : Fin grid0.N) (ma : Memref sig .tc .vmem S1x1x1500 .f32) (hma : ma.IsWhole)
  (mw : Memref sig .tc .vmem S128x1024 .f32) (hmw : mw.IsWhole) (fm : BufOf (F := F) c ma) (fw : BufOf (F := F) c mw)

/-- What a step is handed, the windows' blocks and the rest of the program beside; and what it is to leave. -/
def stepIn (W : Waits sig Unit) (K : PUnit → sProp 𝕄) : sProp 𝕄 :=
  iprop(stepInv c G A T tS tE t.val ∗ ptOwn c ma fm ∗ ptOwn c mw fw ∗ owes (c : Thread nD τ) 0 W
    ∗ (iprop(stepInv c G A T tS tE (t.val + 1) ∗ ptOwn c ma fm ∗ ptOwn c mw fw ∗ ∃ W', owes (c : Thread nD τ) 0 W') -∗ K ⟨⟩))

theorem step_mid (h2 : 2 ≤ t.val) (ht : t.val + 1 < 16)
    (hG : StepIs c G (Ring.bk 16 t.val) A (ma.view.read (Elt F) fm) (mw.view.read (Elt F) fw) (RR c T tS tE)) (W : Waits sig Unit) (K : PUnit → sProp 𝕄) :
    stepIn c G A T tS tE t ma mw fm fw W K ⊢ wp frame (wpE (defs₀ (F := F)) Variants.none c none) Set.univ (bodyOn t ma hma mw hmw) K := by
  have e1 := (Ring.AtBΦ_lt 2 (wfree (F := F) c) (winfl c G) (wahead (F := F) c) (wbehind c G) t.val (by omega)).trans
    (Ring.AtB22_here (wfree (F := F) c) (winfl c G) (wahead (F := F) c) (wbehind c G) t.val h2 (by omega))
  have e2 := (Ring.AtBΦ_lt 2 (wfree (F := F) c) (winfl c G) (wahead (F := F) c) (wbehind c G) (t.val + 1) ht).trans
    (Ring.AtB22_next (wfree (F := F) c) (winfl c G) (wahead (F := F) c) (wbehind c G) t.val h2 (by omega))
  unfold stepIn stepInv wring
  rw [scr_pos c A T tS tE t.val (by omega), scr_pos c A T tS tE (t.val + 1) (by omega), e1, e2]
  iintro ⟨⟨⟨⟨Ha, HA⟩, HB, Hw, Hc⟩, Hs, Hkept⟩, Hm, Hmw, HW, Hk⟩
  iapply (run_mid c t ma hma mw hmw G fm fw A (RR c T tS tE) (fun h => by have := (cond1_iff t).1 h; omega) ((cond2_iff t).2 h2)
    (fun h => by have := (cond3_iff t).1 h; omega) hG W K)
  isplitl [Hm Hmw Hs]
  · isplitl [Hm]; · iexact Hm
    isplitl [Hmw]; · iexact Hmw
    iexact Hs
  isplitl [Ha]; · iexact Ha
  isplitl [Hw]; · iexact Hw
  isplitl [HW]; · iexact HW
  iintro ⟨⟨Hm, Hmw, Hs⟩, Hbe, Hin, HW⟩
  iapply Hk
  isplitl [HA HB Hc Hs Hkept Hbe Hin]
  · isplitl [HA HB Hc Hbe Hin]
    · isplitl [HA]; · iexact HA
      isplitl [Hbe HB]
      · isplitl [Hbe]; · iexact Hbe
        iexact HB
      isplitl [Hc]; · iexact Hc
      iexact Hin
    isplitl [Hs]; · iexact Hs
    iexact Hkept
  isplitl [Hm]; · iexact Hm
  isplitl [Hmw]; · iexact Hmw
  iexact HW

theorem step_one (h1 : t.val = 1)
    (hG : StepIs c G (Ring.bk 16 t.val) A (ma.view.read (Elt F) fm) (mw.view.read (Elt F) fw) (RR c T tS tE)) (W : Waits sig Unit) (K : PUnit → sProp 𝕄) :
    stepIn c G A T tS tE t ma mw fm fw W K ⊢ wp frame (wpE (defs₀ (F := F)) Variants.none c none) Set.univ (bodyOn t ma hma mw hmw) K := by
  have e1 := (Ring.AtBΦ_lt 2 (wfree (F := F) c) (winfl c G) (wahead (F := F) c) (wbehind c G) t.val (by omega)).trans
    (Ring.AtB22_one' (wfree (F := F) c) (winfl c G) (wahead (F := F) c) (wbehind c G) t.val h1 (by omega))
  have e2 := (Ring.AtBΦ_lt 2 (wfree (F := F) c) (winfl c G) (wahead (F := F) c) (wbehind c G) (t.val + 1) (by omega)).trans
    (Ring.AtB22_next_one' (wfree (F := F) c) (winfl c G) (wahead (F := F) c) (wbehind c G) t.val h1)
  unfold stepIn stepInv wring
  rw [scr_pos c A T tS tE t.val (by omega), scr_pos c A T tS tE (t.val + 1) (by omega), e1, e2]
  iintro ⟨⟨⟨⟨Ha, HA⟩, Hf, Hc⟩, Hs, Hkept⟩, Hm, Hmw, HW, Hk⟩
  iapply (run_one c t ma hma mw hmw G fm fw A (RR c T tS tE) (fun h => by have := (cond1_iff t).1 h; omega) (fun h => by have := (cond2_iff t).1 h; omega)
    (fun h => by have := (cond3_iff t).1 h; omega) hG W K)
  isplitl [Hm Hmw Hs]
  · isplitl [Hm]; · iexact Hm
    isplitl [Hmw]; · iexact Hmw
    iexact Hs
  isplitl [Ha]; · iexact Ha
  isplitl [Hf]; · iexact Hf
  isplitl [HW]; · iexact HW
  iintro ⟨⟨Hm, Hmw, Hs⟩, Hin, HW⟩
  iapply Hk
  isplitl [HA Hc Hs Hkept Hin]
  · isplitl [HA Hc Hin]
    · isplitl [HA]; · iexact HA
      isplitl [Hc]; · iexact Hc
      iexact Hin
    isplitl [Hs]; · iexact Hs
    iexact Hkept
  isplitl [Hm]; · iexact Hm
  isplitl [Hmw]; · iexact Hmw
  iexact HW

theorem step_last (ht : t.val + 1 = 16)
    (hG : StepIs c G (Ring.bk 16 t.val) A (ma.view.read (Elt F) fm) (mw.view.read (Elt F) fw) (RR c T tS tE)) (W : Waits sig Unit) (K : PUnit → sProp 𝕄) :
    stepIn c G A T tS tE t ma mw fm fw W K ⊢ wp frame (wpE (defs₀ (F := F)) Variants.none c none) Set.univ (bodyOn t ma hma mw hmw) K := by
  have e1 := (Ring.AtBΦ_lt 2 (wfree (F := F) c) (winfl c G) (wahead (F := F) c) (wbehind c G) t.val (by omega)).trans
    (Ring.AtB22_here_last (wfree (F := F) c) (winfl c G) (wahead (F := F) c) (wbehind c G) t.val (by omega) ht)
  have e2 := (Ring.AtBΦ_end 2 (wfree (F := F) c) (winfl c G) (wahead (F := F) c) (wbehind c G) (t.val + 1) ht).trans
    (Ring.AtB22_drained (wfree (F := F) c) (wbehind c G) t.val (by omega) ht)
  unfold stepIn stepInv wring
  rw [scr_pos c A T tS tE t.val (by omega), scr_pos c A T tS tE (t.val + 1) (by omega), e1, e2]
  iintro ⟨⟨⟨Ha, HB, Hw, Hc⟩, Hs, Hkept⟩, Hm, Hmw, HW, Hk⟩
  iapply (run_last c t ma hma mw hmw G fm fw A (RR c T tS tE) (fun h => by have := (cond1_iff t).1 h; omega) ((cond2_iff t).2 (by omega))
    ((cond3_iff t).2 (by omega)) hG W K)
  isplitl [Hm Hmw Hs]
  · isplitl [Hm]; · iexact Hm
    isplitl [Hmw]; · iexact Hmw
    iexact Hs
  isplitl [Ha]; · iexact Ha
  isplitl [Hw]; · iexact Hw
  isplitl [Hc]; · iexact Hc
  isplitl [HW]; · iexact HW
  iintro ⟨⟨Hm, Hmw, Hs⟩, Hb0, Hb2, Hb1, Hf, Hf', HW⟩
  iapply Hk
  isplitl [HB Hb0 Hb1 Hb2 Hf Hf' Hs Hkept]
  · isplitl [HB Hb0 Hb1 Hb2 Hf Hf']
    · isplitl [HB Hb0 Hb1 Hb2]
      · isplitl [Hb0]; · iexact Hb0
        isplitl [Hb2]; · iexact Hb2
        isplitl [Hb1]; · iexact Hb1
        iexact HB
      isplitl [Hf]; · iexact Hf
      iexact Hf'
    isplitl [Hs]; · iexact Hs
    iexact Hkept
  isplitl [Hm]; · iexact Hm
  isplitl [Hmw]; · iexact Hmw
  iexact HW

theorem step_first (h0 : t.val = 0) (hI : IdsOk tS tE)
    (hG : StepIs c G (Ring.bk 16 t.val) A (ma.view.read (Elt F) fm) (mw.view.read (Elt F) fw) (RR c T tS tE)) (W : Waits sig Unit) (K : PUnit → sProp 𝕄) :
    stepIn c G A T tS tE t ma mw fm fw W K ⊢ wp frame (wpE (defs₀ (F := F)) Variants.none c none) Set.univ (bodyOn t ma hma mw hmw) K := by
  have e1 := (Ring.AtBΦ_lt 2 (wfree (F := F) c) (winfl c G) (wahead (F := F) c) (wbehind c G) t.val (by omega)).trans
    (Ring.AtB2_zero' 2 (wfree (F := F) c) (winfl c G) (wahead (F := F) c) (wbehind c G) t.val h0)
  have e2 := (Ring.AtBΦ_lt 2 (wfree (F := F) c) (winfl c G) (wahead (F := F) c) (wbehind c G) (t.val + 1) (by omega)).trans
    (Ring.AtB22_next_zero' (wfree (F := F) c) (winfl c G) (wahead (F := F) c) (wbehind c G) t.val h0)
  unfold stepIn stepInv wring
  rw [scr_zero c A T tS tE t.val h0, scr_pos c A T tS tE (t.val + 1) (by omega), e1, e2]
  iintro ⟨⟨⟨⟨Ha, HA⟩, Hf0, Hf1⟩, ⟨⟨%fx, Hx⟩, ⟨%fe, He⟩, ⟨%fA, HsA⟩⟩, ⟨Hsp, Hc02, Hc03, Hc12, Hc13, HS, HT, HtS, HtE, Hg⟩⟩, Hm, Hmw, HW, Hk⟩
  ihave He := (rows_cut c fe) $$ He
  icases He with ⟨He0, He1, He2, He3, He4, He⟩
  ihave HT := (table_five c T).1 $$ HT
  icases HT with ⟨HT1, HT2, HT3, HT4, HT5⟩
  have b0 : (tS (ix1 (⟨0, by decide⟩ : Fin 4))).toNat < 100000 := hI 0
  have b1 : (tS (ix1 (⟨1, by decide⟩ : Fin 4))).toNat < 100000 := hI 1
  have b2 : (tS (ix1 (⟨2, by decide⟩ : Fin 4))).toNat < 100000 := hI 2
  have b3 : (tS (ix1 (⟨3, by decide⟩ : Fin 4))).toNat < 100000 := hI 3
  have b4 : (tE (ix1 (0 : Fin 1))).toNat < 100000 := hI 4
  have RF := (run_first c t ma hma mw hmw G fm fw A (RR c T tS tE) ((cond1_iff t).2 h0) (fun h => by have := (cond2_iff t).1 h; omega)
    (fun h => by have := (cond3_iff t).1 h; omega) tS tE fx fe fA T fullShare.right qa qb qc qd qe W K
    (by rw [word_S c 0 _ _ (by decide)]; exact chk_ok1 _ _ b0) (by rw [word_S c 1 _ _ (by decide)]; exact chk_ok2 _ _ b1)
    (by rw [word_S c 2 _ _ (by decide)]; exact chk_ok3 _ _ b2) (by rw [word_S c 3 _ _ (by decide)]; exact chk_ok4 _ _ b3)
    (by rw [word_E c]; exact chk_ok5 _ _ b4) hG
    (fun j => row_read c T _ _ (congrArg (fun v : BitVec 32 => ![v.toNat, 0]) (word_S c 0 _ _ (by decide) tS)) _ b0 j)
    (fun j => row_read c T _ _ (congrArg (fun v : BitVec 32 => ![v.toNat, 0]) (word_S c 1 _ _ (by decide) tS)) _ b1 j)
    (fun j => row_read c T _ _ (congrArg (fun v : BitVec 32 => ![v.toNat, 0]) (word_S c 2 _ _ (by decide) tS)) _ b2 j)
    (fun j => row_read c T _ _ (congrArg (fun v : BitVec 32 => ![v.toNat, 0]) (word_S c 3 _ _ (by decide) tS)) _ b3 j)
    (fun j => row_read c T _ _ (congrArg (fun v : BitVec 32 => ![v.toNat, 0]) (word_E c _ _ tE)) _ b4 j)
    trivial)
  iapply RF
  isplitl [Hm]; · iexact Hm
  isplitl [Hmw]; · iexact Hmw
  isplitl [Hx]; · iexact Hx
  isplitl [He0]; · iexact He0
  isplitl [He1]; · iexact He1
  isplitl [He2]; · iexact He2
  isplitl [He3]; · iexact He3
  isplitl [He4]; · iexact He4
  isplitl [He]; · iexact He
  isplitl [HsA]; · iexact HsA
  isplitl [HS]; · iexact HS
  isplitl [HT1]; · iexact HT1
  isplitl [HT2]; · iexact HT2
  isplitl [HT3]; · iexact HT3
  isplitl [HT4]; · iexact HT4
  isplitl [HT5]; · iexact HT5
  isplitl [HtS]; · iexact HtS
  isplitl [HtE]; · iexact HtE
  isplitl [Hc02]; · iexact Hc02
  isplitl [Hc03]; · iexact Hc03
  isplitl [Hc12]; · iexact Hc12
  isplitl [Ha]; · iexact Ha
  isplitl [Hf0]; · iexact Hf0
  isplitl [HW]; · iexact HW
  iintro ⟨⟨Hm, Hmw, Hs⟩, Hin, HS, HT1, HT2, HT3, HT4, HT5, HtS, HtE, Hc02, Hc03, Hc12, HW⟩
  ihave HT := (table_five c T).2 $$ [HT1 HT2 HT3 HT4 HT5]
  · isplitl [HT1]; · iexact HT1
    isplitl [HT2]; · iexact HT2
    isplitl [HT3]; · iexact HT3
    isplitl [HT4]; · iexact HT4
    iexact HT5
  iapply Hk
  isplitl [HA Hf1 Hin Hs Hsp Hc02 Hc03 Hc12 Hc13 HS HT HtS HtE Hg]
  · isplitl [HA Hf1 Hin]
    · isplitl [HA]; · iexact HA
      isplitl [Hf1]; · iexact Hf1
      iexact Hin
    isplitl [Hs]; · iexact Hs
    isplitl [Hsp]; · iexact Hsp
    isplitl [Hc02]; · iexact Hc02
    isplitl [Hc03]; · iexact Hc03
    isplitl [Hc12]; · iexact Hc12
    isplitl [Hc13]; · iexact Hc13
    isplitl [HS]; · iexact HS
    isplitl [HT]; · iexact HT
    isplitl [HtS]; · iexact HtS
    isplitl [HtE]; · iexact HtE
    iexact Hg
  isplitl [Hm]; · iexact Hm
  isplitl [Hmw]; · iexact Hmw
  iexact HW

/-- Every step. -/
theorem step_any (hI : IdsOk tS tE)
    (hG : StepIs c G (Ring.bk 16 t.val) A (ma.view.read (Elt F) fm) (mw.view.read (Elt F) fw) (RR c T tS tE)) (W : Waits sig Unit) (K : PUnit → sProp 𝕄) :
    stepIn c G A T tS tE t ma mw fm fw W K ⊢ wp frame (wpE (defs₀ (F := F)) Variants.none c none) Set.univ (bodyOn t ma hma mw hmw) K := by
  have hN : t.val < 16 := lt_of_lt_of_eq t.isLt N_0
  by_cases h0 : t.val = 0
  · exact step_first c G A T tS tE t ma hma mw hmw fm fw h0 hI hG W K
  by_cases h1 : t.val = 1
  · exact step_one c G A T tS tE t ma hma mw hmw fm fw h1 hG W K
  by_cases h15 : t.val + 1 = 16
  · exact step_last c G A T tS tE t ma hma mw hmw fm fw h15 hG W K
  · exact step_mid c G A T tS tE t ma hma mw hmw fm fw (by omega) (by omega) hG W K

end Step

end Cert.KernelIdeal.Hand

end
-- ==== Proof.IEdges.lean ====
/-
The two ends of the launch: what the region hands the first step is the step invariant before step 0, and the
   invariant after the last step is what the region takes back, the result named.
-/
module

public import proofs.«01_k».proof.Proof.IStep

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body's own semaphores, and the buffers it moves itself -/

abbrev osem0 : Fin 8 → SemLoc sig := fun j =>
  (![SemLoc.dma 3, SemLoc.dma 4, SemLoc.dma 5, SemLoc.dma 6, SemLoc.dma 7, SemLoc.dma 8, SemLoc.dma 9, SemLoc.dma 10] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 0 ∗ cellP (F := F) c 0 1 ∗ cellP (F := F) c 0 2 ∗ cellP (F := F) c 0 3
          ∗ cellP (F := F) c 1 0 ∗ cellP (F := F) c 1 1 ∗ cellP (F := F) c 1 2 ∗ cellP (F := F) c 1 3) := by
  rw [Pipeline.ownSems0_eq_of_list c osem0 [0, 1, 2, 3, 4, 5, 6, 7] (by decide) (by decide)]
  simp only [cellP, cellR_00, cellR_01, cellR_02, cellR_03, cellR_10, cellR_11, cellR_12, cellR_13]
  rfl

/-- The two arguments the body's transfers read. -/
def H0 : Finset (Ref sig .tc) := {main_arg0, main_arg4}
/-- The result they write. -/
def R0 : Finset (Ref sig .tc) := {main_v1}
theorem H0_sub : H0 ⊆ Pipeline.restRefsP sig pre0 spec0 := by decide
theorem R0_sub : R0 ⊆ Pipeline.restRefsP sig pre0 spec0 \ H0 := by decide

theorem lent_eq (c : Dev nD) (V : (b : Ref sig .tc) → Buf (Elt F) ((c : Thread nD τ).loc b)) :
    (bigSep H0 (fun b => ((c : Thread nD τ).loc b) ↦{fullShare} V b) : sProp 𝕄)
      = iprop(ptAll (F := F) c hbS (V main_arg0) ∗ ptAll (F := F) c hbE (V main_arg4)) := by
  rw [BI.bigSep_eq_bigSepL_of_eq [main_arg0, main_arg4] (by decide) (by decide)]; rfl

theorem tables_eq (c : Dev nD) (v : pre0.Contents (Elt F)) :
    (Pipeline.ΦT pre0 v c : sProp 𝕄)
      = iprop(ptAt (F := F) c smS fullShare.right (v 0) ∗ ptAt (F := F) c smE fullShare.right (v 1)) := by
  unfold Pipeline.ΦT Pipeline.prefHeld
  rw [show (Finset.univ : Finset (Fin 2)) = insert 0 {1} from by decide, bigSep_insert (by decide), bigSep_singleton]
  rfl

/-! ## In, and out -/

section Ends
variable (c : Dev nD) (G : BufOf (F := F) c hbO) (A : S16x1500x128.Idx → Elt F .f32) (T : BufOf (F := F) c hbE)
  (tS : BufOf (F := F) c smS) (tE : BufOf (F := F) c smE)

/-- The four scratch buffers at anything, and the core's random-number register. -/
abbrev scratches : sProp 𝕄 :=
  iprop(((∃ f, ptAll (F := F) c scX f) ∗ (∃ f, ptAll (F := F) c scY f) ∗ (∃ f, ptAll (F := F) c scE f) ∗ ∃ f, ptAll (F := F) c scA f)
    ∗ (∃ r, prngReg c r)
    ∗ (cellP (F := F) c 0 0 ∗ cellP (F := F) c 0 1 ∗ cellP (F := F) c 0 2 ∗ cellP (F := F) c 0 3
          ∗ cellP (F := F) c 1 0 ∗ cellP (F := F) c 1 1 ∗ cellP (F := F) c 1 2 ∗ cellP (F := F) c 1 3)
    ∗ (ptAll (F := F) c hbS A ∗ ptAll (F := F) c hbE T))

theorem entry (g : BufOf (F := F) c hbO) :
    iprop((scratches c A T ∗ ptAll (F := F) c hbO g) ∗ (ptAt (F := F) c smS fullShare.right tS ∗ ptAt (F := F) c smE fullShare.right tE))
      ⊢ stepInv c G A T tS tE 0 := by
  have e := (Ring.AtBΦ_lt 2 (wfree (F := F) c) (winfl c G) (wahead (F := F) c) (wbehind c G) 0 (by omega)).trans
    (Ring.AtB_zero 2 (wfree (F := F) c) (winfl c G) (wahead (F := F) c) (wbehind c G))
  unfold stepInv wring
  rw [scr_zero c A T tS tE 0 rfl, e]
  unfold Ring.AtB₀
  rw [Ring.bigSep_fin2]
  iintro ⟨⟨⟨⟨Hx, ⟨%fy, Hy⟩, He, Ha⟩, Hg, ⟨H00, H01, H02, H03, H10, H11, H12, H13⟩, HS, HT⟩, HO⟩, HtS, HtE⟩
  ihave Hy := (slots_cut c fy) $$ Hy
  icases Hy with ⟨⟨Hb0, Hl0⟩, ⟨Hb1, Hl1⟩, Hsp⟩
  ihave HO := (result_cut c g) $$ HO
  isplitl [HO H00 H01 H10 H11 Hb0 Hl0 Hb1 Hl1]
  · isplitl [HO]; · iexact HO
    isplitl [H00 H01 Hb0 Hl0]
    · isplitl [H00]; · iexact H00
      isplitl [H01]; · iexact H01
      isplitl [Hb0]; · iexact Hb0
      iexact Hl0
    isplitl [H10]; · iexact H10
    isplitl [H11]; · iexact H11
    isplitl [Hb1]; · iexact Hb1
    iexact Hl1
  isplitl [Hx He Ha]
  · isplitl [Hx]; · iexact Hx
    isplitl [He]; · iexact He
    iexact Ha
  isplitl [Hsp]; · iexact Hsp
  isplitl [H02]; · iexact H02
  isplitl [H03]; · iexact H03
  isplitl [H12]; · iexact H12
  isplitl [H13]; · iexact H13
  isplitl [HS]; · iexact HS
  isplitl [HT]; · iexact HT
  isplitl [HtS]; · iexact HtS
  isplitl [HtE]; · iexact HtE
  iexact Hg

theorem leave (k : ℕ) (hk : k = 16) :
    stepInv c G A T tS tE k ⊢ iprop(scratches c A T ∗ ptAll (F := F) c hbO G) := by
  have e := Ring.AtBΦ_end 2 (wfree (F := F) c) (winfl c G) (wahead (F := F) c) (wbehind c G) k hk
  unfold stepInv wring
  rw [scr_pos c A T tS tE k (by omega), e]
  unfold Ring.AtBEnd
  rw [Ring.bigSep_fin2]
  iintro ⟨⟨HO, ⟨H00, H01, Hb0, Hl0⟩, ⟨H10, H11, Hb1, Hl1⟩⟩, ⟨⟨%fx, -, Hx⟩, ⟨%fe, -, He⟩, Ha⟩, ⟨⟨%e, Hsp⟩, H02, H03, H12, H13, HS, HT, HtS, HtE, Hg⟩⟩
  ihave HO := (result_join c G) $$ HO
  ihave Hy := (slots_join c e) $$ [Hb0 Hl0 Hb1 Hl1 Hsp]
  · isplitl [Hb0 Hl0]
    · isplitl [Hb0]; · iexact Hb0
      iexact Hl0
    isplitl [Hb1 Hl1]
    · isplitl [Hb1]; · iexact Hb1
      iexact Hl1
    iexists e; iexact Hsp
  isplitr [HO]
  swap
  · iexact HO
  isplitl [Hx Hy He Ha]
  · isplitl [Hx]; · iexists fx; iexact Hx
    isplitl [Hy]; · iexact Hy
    isplitl [He]; · iexists fe; iexact He
    iexists A; iexact Ha
  isplitl [Hg]; · iexact Hg
  isplitl [H00 H01 H02 H03 H10 H11 H12 H13]
  · isplitl [H00]; · iexact H00
    isplitl [H01]; · iexact H01
    isplitl [H02]; · iexact H02
    isplitl [H03]; · iexact H03
    isplitl [H10]; · iexact H10
    isplitl [H11]; · iexact H11
    isplitl [H12]; · iexact H12
    iexact H13
  isplitl [HS]; · iexact HS
  iexact HT

end Ends

end Cert.KernelIdeal.Hand

end
-- ==== Proof.ILaunch.lean ====
/-
The launch: the contents the region is entered with, what each window's buffer holds at a step, the body's obligation at
   every step, and the run of the whole program with its result named.
-/
module

public import proofs.«01_k».proof.Proof.IEdges

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents the region is entered with -/

/-- The two tables of ids as launched. -/
def pf0 : pre0.Contents (Elt F) := fun k => m (((0 : Dev nD) : Thread nD τ).loc (pre0.ref k))
abbrev adm : (p : Fin 1) → (pcfgs (F := F) p).Adm := fun _ => ⟨pf0 m, trivial⟩
/-- The pipeline at those tables. -/
abbrev cfgA : Pipeline.Cfg sig Λ₀ := cfg0 (adm m 0)

/-- What each buffer holds once the masks are reshaped. -/
def V (c : Dev nD) (b : Ref sig .tc) : Buf (Elt F) ((c : Thread nD τ).loc b) :=
  StableHlo.after (hostOps0 (F := F)) (fun b => m (c, b)) b

theorem V_arg0 (c : Dev nD) : V m c main_arg0 = m ((c : Thread nD τ).loc main_arg0) := by unfold V; after_results; try rfl
theorem V_arg1 (c : Dev nD) : V m c main_arg1 = m ((c : Thread nD τ).loc main_arg1) := by unfold V; after_results; try rfl
theorem V_arg2 (c : Dev nD) : V m c main_arg2 = m ((c : Thread nD τ).loc main_arg2) := by unfold V; after_results; try rfl
theorem V_arg3 (c : Dev nD) : V m c main_arg3 = m ((c : Thread nD τ).loc main_arg3) := by unfold V; after_results; try rfl
theorem V_arg4 (c : Dev nD) : V m c main_arg4 = m ((c : Thread nD τ).loc main_arg4) := by unfold V; after_results; try rfl
theorem V_arg5 (c : Dev nD) : V m c main_arg5 = m ((c : Thread nD τ).loc main_arg5) := by unfold V; after_results; try rfl

theorem hmain (𝒱₀ : Variants) : Pipeline.HMainP (Ix := Unit) (Name := ℕ) (U := Pipeline.UD sig nD τ) (Lvl := ℕ) (pcfgs (F := F)) 0 defs₀ 𝒱₀ m main (V m) :=
  Pipeline.hmainP_prefix (pcfgs (F := F)) 0 defs₀ 𝒱₀ m main hostOps0 hostOps0_sub rfl main_chain

/-! ## The five pieces of the result's value -/

abbrev sounds (c : Dev nD) : S16x1500x128.Idx → Elt F .f32 := V m c main_arg0
abbrev masks (c : Dev nD) : S16x1x1500.Idx → Elt F .f32 := V m c main_v0
abbrev table (c : Dev nD) : S100000x1024.Idx → Elt F .f32 := V m c main_arg4
abbrev weights (c : Dev nD) : S128x1024.Idx → Elt F .f32 := V m c main_arg5
abbrev starts : S4.Idx → BitVec 32 := pf0 m 0
abbrev stop : S1.Idx → BitVec 32 := pf0 m 1

/-- The result. -/
def resV (c : Dev nD) : S16x1505x1024.Idx → Elt F .f32 :=
  resG (F := F) (sounds m c) (masks m c) (weights m c) (embR (F := F) (table m c) (starts m) (stop m))

/-! ## The windows -/

/-- Step `t`'s block of the masks, and the weights whole, as the windows read them. -/
def mblk (c : Dev nD) (t : Fin (cfgA m).N) : S1x1x1500.Idx → Elt F .f32 := (((cfgA m).win 0).blk t).view.read (Elt F) (V m c main_v0)
def wblk (c : Dev nD) (t : Fin (cfgA m).N) : S128x1024.Idx → Elt F .f32 := (((cfgA m).win 1).blk t).view.read (Elt F) (V m c main_arg5)

def dats (_ : Fin 1) (c : Dev nD) : Pipeline.Dat τ (Elt F) Unit ℕ (Pipeline.UD sig nD τ) ℕ (cfgA m) c where
  A w := V m c (Pipeline.arrRef spec0 w)
  after w t := match w with
    | ⟨0, _⟩ => mblk m c t
    | ⟨1, _⟩ => wblk m c t
  Φ t := stepInv c (resV m c) (sounds m c) (table m c) (starts m) (stop m) t.val
  q _ := fullShare
  owed _ := 0

theorem A_eq (c : Dev nD) (w : Fin (cfgA m).W) : (dats m 0 c).A w = V m c (Pipeline.arrRef spec0 w) := by
  dsimp only [dats]
theorem after0 (c : Dev nD) (t : Fin (cfgA m).N) : (dats m 0 c).after 0 t = mblk m c t := rfl
theorem after1 (c : Dev nD) (t : Fin (cfgA m).N) : (dats m 0 c).after 1 t = wblk m c t := rfl

theorem before0 (c : Dev nD) (t : Fin (cfgA m).N) (d) : (dats m 0 c).before 0 t d = mblk m c t :=
  (Pipeline.Dat.before_in_eq_fetched (dats m 0 c) 0 rfl (fun _ => rfl) (fun _ _ _ => rfl) (fun _ => rfl) t d).trans rfl
theorem before1 (c : Dev nD) (t : Fin (cfgA m).N) (d) : (dats m 0 c).before 1 t d = wblk m c t :=
  (Pipeline.Dat.before_in_eq_fetched (dats m 0 c) 1 rfl (fun _ => rfl) (fun _ _ _ => rfl) (fun _ => rfl) t d).trans rfl

theorem tr1_eq : ∀ t : Fin grid0.N, cc0_transform_1 (grid0.coords t) = ![(Ring.bk 16 t.val).val, 0, 0] := by decide +kernel
theorem tr2_eq : ∀ t : Fin grid0.N, cc0_transform_2 (grid0.coords t) = ![0, 0] := by decide +kernel

theorem mblk_eq (c : Dev nD) (t : Fin (cfgA m).N) : mblk m c t = maskOf (F := F) (masks m c) (Ring.bk 16 t.val) := by
  funext y
  show V m c main_v0 _ = V m c main_v0 _
  congr 1
  have e := tr1_eq t
  funext a
  apply Fin.ext
  have h0 : (y 0).val = 0 := by have := (y 0).isLt; simpa using this
  have h1 : (y 1).val = 0 := by have := (y 1).isLt; simpa using this
  fin_cases a
  · show cc0_transform_1 (grid0.coords t) 0 * 1 + 1 * (y 0).val = (Ring.bk 16 t.val).val
    rw [e, h0]; show (Ring.bk 16 t.val).val * 1 + 1 * 0 = _; omega
  · show cc0_transform_1 (grid0.coords t) 1 * 1 + 1 * (y 1).val = (y 1).val
    rw [e]; show 0 * 1 + 1 * (y 1).val = _; omega
  · show cc0_transform_1 (grid0.coords t) 2 * 1500 + 1 * (y 2).val = (y 2).val
    rw [e]; show 0 * 1500 + 1 * (y 2).val = _; omega
theorem wblk_eq (c : Dev nD) (t : Fin (cfgA m).N) : wblk m c t = weights m c := by
  funext y
  show V m c main_arg5 _ = V m c main_arg5 _
  congr 1
  have e := tr2_eq t
  funext a
  apply Fin.ext
  fin_cases a
  · show cc0_transform_2 (grid0.coords t) 0 * 128 + 1 * (y 0).val = (y 0).val
    rw [e]; show 0 * 128 + 1 * (y 0).val = _; omega
  · show cc0_transform_2 (grid0.coords t) 1 * 1024 + 1 * (y 1).val = (y 1).val
    rw [e]; show 0 * 1024 + 1 * (y 1).val = _; omega

/-- What the result is to be at the step's batch. -/
theorem stepIs (c : Dev nD) (u : Fin 16) : StepIs (F := F) c (resV m c) u (sounds m c) (maskOf (F := F) (masks m c) u) (weights m c)
    (embR (F := F) (table m c) (starts m) (stop m)) :=
  ⟨resG_pieceB _ _ _ _ u, resG_pieceL _ _ _ _ u⟩

/-! ## The body at every step -/

abbrev st0 (t : Fin (cfgA m).N) : Memref sig .tc .vmem S1x1x1500 .f32 := ((cfgA m).win 0).stage ((cfgA m).slots t 0)
abbrev st1 (t : Fin (cfgA m).N) : Memref sig .tc .vmem S128x1024 .f32 := ((cfgA m).win 1).stage ((cfgA m).slots t 1)
theorem hst0 (t : Fin (cfgA m).N) : (st0 m t).IsWhole := hstage0_0 (((cfgA m).slots t 0).cast nbuf0_0)
theorem hst1 (t : Fin (cfgA m).N) : (st1 m t).IsWhole := hstage0_1 (((cfgA m).slots t 1).cast nbuf0_1)

def bodyPre (c : Dev nD) (t : Fin (cfgA m).N) : sProp 𝕄 :=
  iprop((dats m 0 c).Φ t.castSucc ∗ (dats m 0 c).owesAt () t.castSucc
    ∗ (∃ d, owns (c : Thread nD τ) (st0 m t) fullShare ((dats m 0 c).before 0 t d))
    ∗ (∃ d, owns (c : Thread nD τ) (st1 m t) fullShare ((dats m 0 c).before 1 t d)))
def bodyPost (c : Dev nD) (t : Fin (cfgA m).N) : sProp 𝕄 :=
  iprop((dats m 0 c).Φ t.succ ∗ (dats m 0 c).owesAt () t.succ
    ∗ owns (c : Thread nD τ) (st0 m t) fullShare ((dats m 0 c).after 0 t)
    ∗ owns (c : Thread nD τ) (st1 m t) fullShare ((dats m 0 c).after 1 t))

theorem sound_body (hI : IdsOk (starts m) (stop m)) (c : Dev nD) (t : Fin (cfgA m).N) :
    bodyPre m c t ⊢ wp frame (wpE (defs₀ (F := F)) Variants.none c none) Set.univ
      (bodyOn (F := F) t (st0 m t) (hst0 m t) (st1 m t) (hst1 m t)) (fun _ => bodyPost m c t) := by
  unfold bodyPre
  rw [show (dats m 0 c).Φ t.castSucc = stepInv c (resV m c) (sounds m c) (table m c) (starts m) (stop m) t.val from rfl]
  unfold Pipeline.Dat.owesAt Pipeline.owesWithin
  rw [show (dats m 0 c).owed t.castSucc = 0 from rfl]
  unfold owns
  iintro ⟨HΦ, ⟨%W, -, HW⟩, ⟨%d0, %f0, %hf0, H0⟩, ⟨%d1, %f1, %hf1, H1⟩⟩
  have hf0 := hf0.trans (before0 m c t d0)
  have hf1 := hf1.trans (before1 m c t d1)
  have hG : StepIs (F := F) c (resV m c) (Ring.bk 16 t.val) (sounds m c) ((st0 m t).view.read (Elt F) f0) ((st1 m t).view.read (Elt F) f1)
      (embR (F := F) (table m c) (starts m) (stop m)) := by
    rw [hf0, hf1, mblk_eq, wblk_eq]; exact stepIs m c _
  have run := step_any c (resV m c) (sounds m c) (table m c) (starts m) (stop m) t (st0 m t) (hst0 m t) (st1 m t) (hst1 m t) f0 f1 hI hG W
    (fun _ => bodyPost m c t)
  iapply run
  unfold stepIn
  isplitl [HΦ]; · iexact HΦ
  isplitl [H0]; · iexact H0
  isplitl [H1]; · iexact H1
  isplitl [HW]; · iexact HW
  iintro ⟨HΦ, H0, H1, ⟨%W', HW'⟩⟩
  unfold bodyPost
  rw [after0, after1, show (dats m 0 c).Φ t.succ = stepInv c (resV m c) (sounds m c) (table m c) (starts m) (stop m) (t.val + 1) from rfl]
  unfold Pipeline.Dat.owesAt Pipeline.owesWithin owns
  rw [show (dats m 0 c).owed t.succ = 0 from rfl]
  isplitl [HΦ]; · iexact HΦ
  isplitl [HW']
  · iexists W'; isplitr; · ipureintro; exact fun _ _ => Or.inl trivial
    iexact HW'
  isplitl [H0]
  · iexists f0; isplitr; · ipureintro; exact hf0
    iexact H0
  · iexists f1; isplitr; · ipureintro; exact hf1
    iexact H1

theorem defs₀_row (t : Fin (cfgA m).N) :
    defs₀ (F := F) .tc (cfgA m).body ((cfgA m).bodyArgs t ((cfgA m).slots t)) = bodyOn (F := F) t (st0 m t) (hst0 m t) (st1 m t) (hst1 m t) := by
  unfold defs₀; rw [Defs.onTc_tc]; rfl

theorem body_obligation (hI : IdsOk (starts m) (stop m)) (c : Dev nD) :
    Pipeline.BodyObligation (dats m 0 c) (defs₀ (F := F)) Variants.none () Set.univ := fun t => by
  rw [bigSep_W0, bigSep_W0, defs₀_row]
  exact triple_restated (sound_body m hI c t) rfl .rfl fun _ => .rfl

/-! ## The run -/

theorem tables_entry (c : Dev nD) (k : Fin pre0.K) : V m c (pre0.ref k) = pf0 m k := by
  obtain rfl : c = 0 := Subsingleton.elim _ _
  match k with
  | ⟨0, _⟩ => exact V_arg2 m 0
  | ⟨1, _⟩ => exact V_arg3 m 0

/-- What the buffers hold after the region: the result at its value, the rest as entered. -/
def Gout (c : Dev nD) (b : Ref sig .tc) : Buf (Elt F) ((c : Thread nD τ).loc b) :=
  Function.update (β := fun b => Buf (Elt F) ((c : Thread nD τ).loc b)) (V m c) main_v1 (resV m c) b
theorem Gout_v1 (c : Dev nD) : Gout m c main_v1 = resV m c := Function.update_self ..

theorem Phi_eq (c : Dev nD) (G : (c : Dev nD) → (b : Ref sig .tc) → Buf (Elt F) ((c : Thread nD τ).loc b)) :
    (Pipeline.ΦDRG osem0 spec0 H0 R0 (V m) G c : sProp 𝕄)
      = iprop(scratches c (sounds m c) (table m c) ∗ ptAll (F := F) c hbO (G c main_v1)) := by
  unfold Pipeline.ΦDRG R0
  rw [Pipeline.ΦD_eq, scopedRest0_eq, ownSems00_eq, lent_eq, Pipeline.routed_singleton]

theorem hin (c : Dev nD) : iprop(Pipeline.ΦDRG osem0 spec0 H0 R0 (V m) (V m) c ∗ Pipeline.ΦT pre0 (pf0 m) c) ⊢ ((dats m 0 c).Φ 0 : sProp 𝕄) := by
  rw [Phi_eq, tables_eq]
  exact entry c (resV m c) (sounds m c) (table m c) (starts m) (stop m) (V m c main_v1)

theorem hout (c : Dev nD) : ((dats m 0 c).Φ (Fin.last (cfgA m).N) : sProp 𝕄) ⊢ Pipeline.ΦDRG osem0 spec0 H0 R0 (V m) (Gout m) c := by
  rw [Phi_eq, Gout_v1]
  exact leave c (resV m c) (sounds m c) (table m c) (starts m) (stop m) _ N_0

set_option backward.isDefEq.respectTransparency.types false in
theorem run_main (hI : IdsOk (starts m) (stop m)) : θ_run defs (onTc (τ := τ) (main (F := F))) ⟨m, fun _ => 0, ρ⟩
    (fun r => Pipeline.FramePostRG (Pipeline.pin (pcfgs (F := F)) (adm m)) (dats m) 0 R0 (V m) (Gout m) r ∧ r.2.sem = fun _ => 0) :=
  Pipeline.θ_run_frameP_dmaRG (Q' := _) (pcfgs (F := F)) (adm m) (dats m) (0 : Fin 1) launch0 osem0 defs₀ Variants.none ownSemFacts0 H0 R0 H0_sub R0_sub m ρ main
    (hbody := fun c => (body_obligation m hI c).loose) (hshare := fun c => (dats m 0 c).share_full fun _ => rfl)
    (howed := fun _ _ => rfl) (V := V m) (hmain := hmain m Variants.none) (hA := A_eq m) (hpf := tables_entry m)
    (G := Gout m) (hin := hin m) (hout := hout m)

/-! ## The run, read -/

/-- The tables hold the ids. -/
theorem starts_eq (c : Dev nD) : starts m = m ((c : Thread nD τ).loc main_arg2) := (tables_entry m c 0).symm.trans (V_arg2 m c)
theorem stop_eq (c : Dev nD) : stop m = m ((c : Thread nD τ).loc main_arg3) := (tables_entry m c 1).symm.trans (V_arg3 m c)

/-- Ids in range, as the argument arrays hold them. -/
theorem ids_ok (c : Dev nD) (hs : ∀ y, ((m ((c : Thread nD τ).loc main_arg2) : S4.Idx → BitVec 32) y).toNat < 100000)
    (he : ∀ y, ((m ((c : Thread nD τ).loc main_arg3) : S1.Idx → BitVec 32) y).toNat < 100000) : IdsOk (starts m) (stop m) := fun r => by
  rw [starts_eq m c, stop_eq m c]
  unfold idOf
  split
  · exact hs _
  · exact he _

/-- The masks with their unit axis dropped are the argument. -/
theorem masks_at (c : Dev nD) (u : Fin 16) (k : Fin 1500) :
    masks m c (ix3 u (0 : Fin 1) k) = (m ((c : Thread nD τ).loc main_arg1) : S16x1500.Idx → Elt F .f32) (ix2 u k) := by
  have e : V m c main_v0 = shapeCast S16x1x1500 (m ((c : Thread nD τ).loc main_arg1) : S16x1500.Idx → Elt F .f32) shapeCasts_S16x1500_S16x1x1500 := by
    unfold V; after_results; try rfl
  show V m c main_v0 (ix3 u (0 : Fin 1) k) = _
  rw [e]
  generalize (m ((c : Thread nD τ).loc main_arg1) : S16x1500.Idx → Elt F .f32) = f
  pointwise

/-- The run: the result as named, the arguments kept, the counters zero. -/
theorem run_all (hI : IdsOk (starts m) (stop m)) : θ_run defs (onTc (τ := τ) (main (F := F))) ⟨m, fun _ => 0, ρ⟩ fun r => (∀ c : Dev nD,
      r.2.mem ((c.tc : Thread nD τ).loc main_v1) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c =>
      ⟨(h.1.written c (by unfold R0; exact Finset.mem_singleton_self main_v1)).trans (Gout_v1 m c),
        ((h.1.toR c).2 main_arg0 (Finset.mem_sdiff.mpr ⟨Pipeline.mem_restRefs_of main_arg0 (by decide) (show ∀ w, (spec0 w).arr.view.ref ≠ main_arg0 by decide), by decide⟩)).trans (V_arg0 m c),
        ((h.1.toR c).2 main_arg1 (Finset.mem_sdiff.mpr ⟨Pipeline.mem_restRefs_of main_arg1 (by decide) (show ∀ w, (spec0 w).arr.view.ref ≠ main_arg1 by decide), by decide⟩)).trans (V_arg1 m c),
        ((h.1.toR c).2 main_arg2 (Finset.mem_sdiff.mpr ⟨Pipeline.mem_restRefs_of main_arg2 (by decide) (show ∀ w, (spec0 w).arr.view.ref ≠ main_arg2 by decide), by decide⟩)).trans (V_arg2 m c),
        ((h.1.toR c).2 main_arg3 (Finset.mem_sdiff.mpr ⟨Pipeline.mem_restRefs_of main_arg3 (by decide) (show ∀ w, (spec0 w).arr.view.ref ≠ main_arg3 by decide), by decide⟩)).trans (V_arg3 m c),
        ((h.1.toR c).2 main_arg4 (Finset.mem_sdiff.mpr ⟨Pipeline.mem_restRefs_of main_arg4 (by decide) (show ∀ w, (spec0 w).arr.view.ref ≠ main_arg4 by decide), by decide⟩)).trans (V_arg4 m c),
        ((h.1.toR c).1 1).trans (((dats m 0 c).arrAt_in 1 rfl _).trans (V_arg5 m c))⟩, h.2⟩)
    (run_main m ρ hI)

end Cert.KernelIdeal.Hand

end
-- ==== Proof.Ids.lean ====
/-
  What the precondition says: each of the four start ids and the end id, read as a natural number, is below 100000, the
  number of rows of the table.
-/
module

public import proofs.«01_k».proof.Defs
public import proofs.«01_k».proof.Proof.Gen.Pre_ids_in_vocabulary
public import Idealize.ShloMosaic.Lib.ReduceAll

@[expose] public section

set_option maxRecDepth 16384

namespace Cert.Pre_ids_in_vocabulary.Hand

open Cert.Pre_ids_in_vocabulary Cert.Pre_ids_in_vocabulary.Gen
open Idealize.ShloMosaic

/-- A word between 0 and 99999, compared signed, is below 100000 as a natural number. -/
theorem word_lt (x : BitVec 32) (h : IntOp.andi (IntOp.cmpi .sge x 0#32) (IntOp.cmpi .slt x 100000#32) = 1#1) : x.toNat < 100000 := by
  obtain ⟨h0, h1⟩ := IntOp.andi_eq_one.1 h
  have g0 := IntOp.cmpi_sge.1 h0
  have g1 := IntOp.cmpi_slt.1 h1
  have hx := x.isLt
  simp only [BitVec.toInt, BitVec.toNat_ofNat] at g0 g1
  omega

/-- One index is all there is. -/
instance : Subsingleton S_.Idx := ⟨fun a b => funext fun x => x.elim0⟩

variable {F : FTy → Type} [FloatOps F]

theorem ids_lt (a0 : FVec F S16x1500x128 .f32) (a1 : FVec F S16x1500 .f32) (a2 : IVec S4 32) (a3 : IVec S1 32) (a4 : FVec F S100000x1024 .f32) (a5 : FVec F S128x1024 .f32)
    (h : fn a0 a1 a2 a3 a4 a5 = fun _ => 1#1) : (∀ y, (a2 y).toNat < 100000) ∧ ∀ y, (a3 y).toNat < 100000 := by
  have e := congrFun h (fun x => x.elim0)
  dsimp only [fn] at e
  obtain ⟨e2, e3⟩ := IntOp.andi_eq_one.1 e
  exact ⟨fun y => word_lt _ (Host.reduce_andi_all _ _ _ _ _ e2 y), fun y => word_lt _ (Host.reduce_andi_all _ _ _ _ _ e3 y)⟩

end Cert.Pre_ids_in_vocabulary.Hand

end
-- ==== Proof.RefVal.lean ====
/-
  What the reference computes, element by element: rows 0 to 3 of every batch are the rows of the table that the start ids
  name, rows 4 to 1503 the masked sounds times the weights, row 1504 the row that the end id names.
-/
module

public import proofs.«01_k».proof.Proof.Gen.ReferenceIdeal
public import proofs.«01_k».proof.Proof.Gen.ReferenceIdeal.Run
public import Idealize.ShloMosaic.Lib.ReduceAll
public import Idealize.ShloMosaic.Lib.Routing.Ops
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-! ## The rows of the table -/

/-- The start ids as the lookup reads them: a negative one counts from the end. -/
def wrapS (a : IVec S4 32) : IVec S4x1 32 :=
  broadcastInDim S4x1 ![0] bcast_S4_S4x1_0 (select (cmpi .slt a (broadcastInDim S4 ![] bcast_S_S4 (constantI S_ 32 0#32))) (addi a (broadcastInDim S4 ![] bcast_S_S4 (constantI S_ 32 100000#32))) a)
/-- The end id as the lookup reads it. -/
def wrapE (a : IVec S1 32) : IVec S1x1 32 :=
  broadcastInDim S1x1 ![0] bcast_S1_S1x1_0 (select (cmpi .slt a (broadcastInDim S1 ![] bcast_S_S1 (constantI S_ 32 0#32))) (addi a (broadcastInDim S1 ![] bcast_S_S1 (constantI S_ 32 100000#32))) a)
/-- The start rows. -/
def lookS (T : FVec Ideal S100000x1024 .f32) (a : IVec S4 32) : FVec Ideal S4x1024 .f32 :=
  select (broadcastInDim S4x1024 ![0] bcast_S4_S4x1024_0 (Host.reduce IntOp.andi (andi (cmpi .sge (wrapS a) (broadcastInDim S4x1 ![] bcast_S_S4x1 (constantI S_ 32 0#32))) (cmpi .sle (wrapS a) (broadcastInDim S4x1 ![0, 1] bcast_S1x1_S4x1_0_1 (broadcastInDim S1x1 ![1] bcast_S1_S1x1_1 (constantI S1 32 99999#32))))) (constantI S_ 1 1#1) reducesTo_S4x1_S4_d1 h_S_))
    (Host.gather gather_S100000x1024_S4x1_S4x1024_1_0_n_n_0_1_11024 T (wrapS a)) (broadcastInDim S4x1024 ![] bcast_S_S4x1024 (constant S_ .f32 0x7FC00000#32))
/-- The end row. -/
def lookE (T : FVec Ideal S100000x1024 .f32) (a : IVec S1 32) : FVec Ideal S1x1024 .f32 :=
  select (broadcastInDim S1x1024 ![0] bcast_S1_S1x1024_0 (Host.reduce IntOp.andi (andi (cmpi .sge (wrapE a) (broadcastInDim S1x1 ![] bcast_S_S1x1 (constantI S_ 32 0#32))) (cmpi .sle (wrapE a) (broadcastInDim S1x1 ![1] bcast_S1_S1x1_1 (constantI S1 32 99999#32)))) (constantI S_ 1 1#1) reducesTo_S1x1_S1_d1 h_S_))
    (Host.gather gather_S100000x1024_S1x1_S1x1024_1_0_n_n_0_1_11024 T (wrapE a)) (broadcastInDim S1x1024 ![] bcast_S_S1x1024 (constant S_ .f32 0x7FC00000#32))
/-- The whole result. -/
def res (A : FVec Ideal S16x1500x128 .f32) (M : FVec Ideal S16x1500 .f32) (s : IVec S4 32) (e : IVec S1 32) (T : FVec Ideal S100000x1024 .f32) (w : FVec Ideal S128x1024 .f32) : FVec Ideal S16x1505x1024 .f32 :=
  concatenate S16x1505x1024 1 [⟨S16x4x1024, broadcastInDim S16x4x1024 ![0, 1, 2] bcast_S1x4x1024_S16x4x1024_0_1_2 (broadcastInDim S1x4x1024 ![1, 2] bcast_S4x1024_S1x4x1024_1_2 (lookS T s))⟩,
    ⟨S16x1500x1024, Host.dotGeneral dot_S16x1500x128_S128x1024_S16x1500x1024_2_0_01_1_n_n none (mulf A (broadcastInDim S16x1500x128 ![0, 1, 2] bcast_S16x1500x1_S16x1500x128_0_1_2 (broadcastInDim S16x1500x1 ![0, 1] bcast_S16x1500_S16x1500x1_0_1 M))) w⟩,
    ⟨S16x1x1024, broadcastInDim S16x1x1024 ![0, 1, 2] bcast_S1x1x1024_S16x1x1024_0_1_2 (broadcastInDim S1x1x1024 ![1, 2] bcast_S1x1024_S1x1x1024_1_2 (lookE T e))⟩]
    concatenates_S16x4x1024_S16x1500x1024_S16x1x1024_S16x1505x1024_d1

/-- A word below 100000 is not negative, so it is read as it is. -/
theorem wrap_word (x : BitVec 32) (h : x.toNat < 100000) : Scalar.select (IntOp.cmpi .slt x 0#32) (IntOp.addi x 100000#32) x = x := by
  have e : IntOp.cmpi .slt x 0#32 = 0#1 := ValueIdx.eq_zero_of_ne_one fun e => by
    have := IntOp.cmpi_slt.1 e
    simp only [BitVec.toInt, BitVec.toNat_ofNat] at this
    omega
  rw [e, ValueIdx.select_zero]
/-- And it passes the lookup's range test. -/
theorem word_ok (x : BitVec 32) (h : x.toNat < 100000) : IntOp.andi (IntOp.cmpi .sge x 0#32) (IntOp.cmpi .sle x 99999#32) = 1#1 := by
  refine IntOp.andi_eq_one.2 ⟨IntOp.cmpi_sge.2 ?_, IntOp.cmpi_sle.2 ?_⟩ <;> simp only [BitVec.toInt, BitVec.toNat_ofNat] <;> omega
/-- A word is the word of its number. -/
theorem of_toNat (x : BitVec 32) : x = BitVec.ofNat 32 x.toNat := by simp

theorem wrapS_at (a : IVec S4 32) (h : ∀ y, (a y).toNat < 100000) (r : Fin 4) : wrapS a (ix2 r (0 : Fin 1)) = a (ix1 r) := by
  pointwise [wrapS]
  exact wrap_word _ (h _)
theorem wrapE_at (a : IVec S1 32) (h : ∀ y, (a y).toNat < 100000) : wrapE a (ix2 (0 : Fin 1) (0 : Fin 1)) = a (ix1 (0 : Fin 1)) := by
  pointwise [wrapE]
  exact wrap_word _ (h _)

theorem lookS_at (T : FVec Ideal S100000x1024 .f32) (a : IVec S4 32) (h : ∀ y, (a y).toNat < 100000) (r : Fin 4) (j : Fin 1024) :
    lookS T a (ix2 r j) = T (ix2 (⟨(a (ix1 r)).toNat, h _⟩ : Fin 100000) j) := by
  have g := Routing.gather_row gather_S100000x1024_S4x1_S4x1024_1_0_n_n_0_1_11024 rfl rfl rfl rfl rfl T (wrapS a) r j ⟨(a (ix1 r)).toNat, h _⟩
    ((wrapS_at a h r).trans (of_toNat _)) (by decide)
  have t := Host.reduce_andi_one (andi (cmpi .sge (wrapS a) (broadcastInDim S4x1 ![] bcast_S_S4x1 (constantI S_ 32 0#32))) (cmpi .sle (wrapS a) (broadcastInDim S4x1 ![0, 1] bcast_S1x1_S4x1_0_1 (broadcastInDim S1x1 ![1] bcast_S1_S1x1_1 (constantI S1 32 99999#32))))) (constantI S_ 1 1#1) reducesTo_S4x1_S4_d1 h_S_ (ix1 r) rfl (fun i => by
    obtain ⟨x, y, rfl⟩ : ∃ (x : Fin 4) (y : Fin 1), i = ix2 x y := ⟨i 0, i 1, eq_ix2 i⟩
    obtain rfl : y = 0 := Subsingleton.elim _ _
    pointwise [wrapS_at a h]
    exact word_ok _ (h _))
  have u : ∀ X : IVec S4 1, broadcastInDim S4x1024 ![0] bcast_S4_S4x1024_0 X (ix2 r j) = X (ix1 r) := fun X => by pointwise
  unfold lookS
  exact (congrArg₂ (fun b x => Scalar.select b x _) ((u _).trans t) g).trans (ValueIdx.select_one _ _)
theorem lookE_at (T : FVec Ideal S100000x1024 .f32) (a : IVec S1 32) (h : ∀ y, (a y).toNat < 100000) (j : Fin 1024) :
    lookE T a (ix2 (0 : Fin 1) j) = T (ix2 (⟨(a (ix1 (0 : Fin 1))).toNat, h _⟩ : Fin 100000) j) := by
  have g := Routing.gather_row gather_S100000x1024_S1x1_S1x1024_1_0_n_n_0_1_11024 rfl rfl rfl rfl rfl T (wrapE a) 0 j ⟨(a (ix1 (0 : Fin 1))).toNat, h _⟩
    ((wrapE_at a h).trans (of_toNat _)) (by decide)
  have t := Host.reduce_andi_one (andi (cmpi .sge (wrapE a) (broadcastInDim S1x1 ![] bcast_S_S1x1 (constantI S_ 32 0#32))) (cmpi .sle (wrapE a) (broadcastInDim S1x1 ![1] bcast_S1_S1x1_1 (constantI S1 32 99999#32)))) (constantI S_ 1 1#1) reducesTo_S1x1_S1_d1 h_S_ (ix1 (0 : Fin 1)) rfl (fun i => by
    obtain ⟨x, y, rfl⟩ : ∃ (x : Fin 1) (y : Fin 1), i = ix2 x y := ⟨i 0, i 1, eq_ix2 i⟩
    obtain rfl : x = 0 := Subsingleton.elim _ _
    obtain rfl : y = 0 := Subsingleton.elim _ _
    pointwise [wrapE_at a h]
    exact word_ok _ (h _))
  unfold lookE
  exact (congrArg₂ (fun b x => Scalar.select b x _) t g).trans (ValueIdx.select_one _ _)

/-! ## The result, by rows -/

variable (A : FVec Ideal S16x1500x128 .f32) (M : FVec Ideal S16x1500 .f32) (s : IVec S4 32) (e : IVec S1 32) (T : FVec Ideal S100000x1024 .f32) (w : FVec Ideal S128x1024 .f32)

theorem res_start (b : Fin 16) (r : Fin 1505) (j : Fin 1024) (hr : r.val < 4) : res A M s e T w (ix3 b r j) = lookS T s (ix2 (⟨r.val, hr⟩ : Fin 4) j) := by
  pointwise [res]
  simp only [dif_pos hr]
theorem res_mid (b : Fin 16) (r : Fin 1505) (j : Fin 1024) (h4 : ¬ r.val < 4) (hr : r.val < 1504) :
    res A M s e T w (ix3 b r j) = ∑ k : Fin 128, (A (ix3 b (⟨r.val - 4, by omega⟩ : Fin 1500) k) * M (ix2 b (⟨r.val - 4, by omega⟩ : Fin 1500))) * w (ix2 k j) := by
  pointwise [res]
  have hr' : r.val - 4 < 1500 := by omega
  simp only [dif_neg h4, dif_pos hr']
theorem res_stop (b : Fin 16) (r : Fin 1505) (j : Fin 1024) (hr : ¬ r.val < 1504) : res A M s e T w (ix3 b r j) = lookE T e (ix2 (0 : Fin 1) j) := by
  pointwise [res]
  have h4 : ¬ r.val < 4 := by omega
  have hr' : ¬ r.val - 4 < 1500 := by omega
  simp only [dif_neg h4, dif_neg hr']

/-- The result at equal arguments. -/
theorem res_congr {A A' M M' s s' e e' T T' w w'} (hA : A = A') (hM : M = M') (hs : s = s') (he : e = e') (hT : T = T') (hw : w = w') :
    res A M s e T w = res A' M' s' e' T' w' := by
  subst hA hM hs he hT hw; rfl

/-! ## The run -/

theorem run_res (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v10) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨h, sem_eq_zero_of_no_sems (by decide) r.2⟩) (Cert.ReferenceIdeal.Value.run m ρ)

end Cert.ReferenceIdeal.Hand

end
-- ==== Proof.IValue.lean ====
/-
  The kernel's result is the reference's, element by element, over the extended reals: both contract the masked sounds with
  the weights over the same 128 terms in the same order of factors, and both read the same rows of the table.
-/
module

public import proofs.«01_k».proof.Proof.ILaunch
public import proofs.«01_k».proof.Proof.RefVal
public import proofs.«01_k».proof.Proof.Ids

@[expose] public section

set_option maxRecDepth 16384

noncomputable section

namespace Cert.KernelIdeal.Hand

open Cert.KernelIdeal Cert.KernelIdeal.Gen
open Idealize.ShloMosaic Idealize.ShloMosaic.TcCoe

/-- A masked sound. -/
theorem pay3_at (a : Vec Ideal S1x1500x128 .f32) (m : Vec Ideal S1x1x1500 .f32) (r : Fin 1500) (k : Fin 128) :
    k0_pay3 (F := Ideal) a m (ix2 r k) = (a (ix3 (0 : Fin 1) r k) * m (ix3 (0 : Fin 1) (0 : Fin 1) r) : EReal) := by
  pointwise [k0_pay3]
/-- An element of the product. -/
theorem pay4_at (x : Vec Ideal S1504x128 .f32) (w : Vec Ideal S128x1024 .f32) (r : Fin 1504) (j : Fin 1024) :
    k0_pay4 (F := Ideal) x w (ix3 (0 : Fin 1) r j) = ∑ k : Fin 128, (x (ix2 r k) * w (ix2 k j) : EReal) := by
  pointwise [k0_pay4]

variable (A : FVec Ideal S16x1500x128 .f32) (M : FVec Ideal S16x1x1500 .f32) (M' : FVec Ideal S16x1500 .f32) (w : FVec Ideal S128x1024 .f32)
  (T : FVec Ideal S100000x1024 .f32) (s : IVec S4 32) (e : IVec S1 32)

theorem resG_lo (R) (b : Fin 16) (r : Fin 1505) (j : Fin 1024) (h : r.val < 4) : resG (F := Ideal) A M w R (ix3 b r j) = R ⟨r.val, by omega⟩ j := by
  have h' : r.val < 1504 := by omega
  unfold resG
  exact (dif_pos h').trans (bigOf_lo (F := Ideal) _ w R ⟨r.val, h'⟩ j h)
theorem resG_mid (R) (b : Fin 16) (r : Fin 1505) (j : Fin 1024) (h4 : ¬ r.val < 4) (h : r.val < 1504) :
    resG (F := Ideal) A M w R (ix3 b r j) = ∑ k : Fin 128, ((A (ix3 b (⟨r.val - 4, by omega⟩ : Fin 1500) k) * M (ix3 b (0 : Fin 1) (⟨r.val - 4, by omega⟩ : Fin 1500))) * w (ix2 k j) : EReal) := by
  unfold resG
  refine (dif_pos h).trans ((bigOf_hi (F := Ideal) _ w R ⟨r.val, h⟩ j h4).trans ((pay4_at _ w _ j).trans (Finset.sum_congr rfl fun k _ => ?_)))
  refine Ideal.mul_congr ((xOf_hi (F := Ideal) _ _ ⟨r.val, h⟩ k h4).trans ((pay3_at _ _ _ k).trans ?_)) rfl
  rfl
theorem resG_hi (R) (b : Fin 16) (r : Fin 1505) (j : Fin 1024) (h : ¬ r.val < 1504) : resG (F := Ideal) A M w R (ix3 b r j) = R 4 j := by
  unfold resG
  exact dif_neg h

/-- A row of the table by a number in range. -/
theorem rowAt_lt (n : ℕ) (j : Fin 1024) (h : n < 100000) : rowAt (F := Ideal) T n j = T (ix2 (⟨n, h⟩ : Fin 100000) j) := by
  unfold rowAt
  exact congrArg (fun i : Fin 100000 => T (ix2 i j)) (Fin.ext (Nat.mod_eq_of_lt h))
theorem embR_lo (r : Fin 5) (j : Fin 1024) (hr : r.val < 4) (h : (s (ix1 (⟨r.val, hr⟩ : Fin 4))).toNat < 100000) :
    embR (F := Ideal) T s e r j = T (ix2 (⟨_, h⟩ : Fin 100000) j) := by
  have i : idOf s e r = (s (ix1 (⟨r.val, hr⟩ : Fin 4))).toNat := dif_pos hr
  unfold embR
  rw [i]
  exact rowAt_lt T _ j h
theorem embR_hi (j : Fin 1024) (h : (e (ix1 (0 : Fin 1))).toNat < 100000) : embR (F := Ideal) T s e 4 j = T (ix2 (⟨_, h⟩ : Fin 100000) j) := by
  have i : idOf s e 4 = (e (ix1 (0 : Fin 1))).toNat := dif_neg (by decide)
  unfold embR
  rw [i]
  exact rowAt_lt T _ j h

/-- The two results are one function. -/
theorem resG_eq (hM : ∀ (u : Fin 16) (k : Fin 1500), M (ix3 u (0 : Fin 1) k) = M' (ix2 u k)) (hs : ∀ y, (s y).toNat < 100000) (he : ∀ y, (e y).toNat < 100000) :
    resG (F := Ideal) A M w (embR (F := Ideal) T s e) = Cert.ReferenceIdeal.Hand.res A M' s e T w := by
  funext i
  obtain ⟨b, r, j, rfl⟩ : ∃ (b : Fin 16) (r : Fin 1505) (j : Fin 1024), i = ix3 b r j := ⟨i 0, i 1, i 2, eq_ix3 i⟩
  by_cases h4 : r.val < 4
  · exact (resG_lo A M w _ b r j h4).trans ((embR_lo T s e ⟨r.val, by omega⟩ j h4 (hs _)).trans
      ((Cert.ReferenceIdeal.Hand.res_start A M' s e T w b r j h4).trans (Cert.ReferenceIdeal.Hand.lookS_at T s hs ⟨r.val, h4⟩ j)).symm)
  · by_cases h : r.val < 1504
    · refine (resG_mid A M w _ b r j h4 h).trans (Eq.trans (Finset.sum_congr rfl fun k _ => ?_) (Cert.ReferenceIdeal.Hand.res_mid A M' s e T w b r j h4 h).symm)
      rw [hM]
    · exact (resG_hi A M w _ b r j h).trans ((embR_hi T s e j (he _)).trans
        ((Cert.ReferenceIdeal.Hand.res_stop A M' s e T w b r j h).trans (Cert.ReferenceIdeal.Hand.lookE_at T e he j)).symm)

end Cert.KernelIdeal.Hand

end
-- ==== Proof.lean ====
/-
  The proof of this directory's certificate (Defs.lean) about the kernel of the statement: an encoder layer's masked product with
  the rows of an embedding table before and after it, written batch by batch through a two-slot ring of copies.

    quiescent_Kernel, quiescent_KernelIdeal — from any memory whose ids name rows of the table, the kernel terminates, nothing
      faults, its six argument arrays end as they were and every semaphore counter ends at zero.
    quiescent_ReferenceIdeal — the same of the reference, from any memory at all (and so under the precondition too).
    preserves_Kernel_KernelIdeal — no operation was rewritten.
    algebraic_KernelIdeal_ReferenceIdeal — over the extended reals the two results are equal, element by element.

  How it is proved. Proof/KRing.lean to Proof/KLaunch.lean run the kernel at any float type: what each copy and store leaves
  (KVal), the body at the first, the second and every later grid point (KBody, KFirst), the state held between two points
  (KPieces, KStep), the launch's two ends (KEdges) and the launch (KLaunch). Proof/IRing.lean to Proof/ILaunch.lean are the same
  text about the idealized program. Proof/Ids.lean reads the precondition, Proof/RefVal.lean the reference's result, and
  Proof/IValue.lean equates the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ids_in_vocabulary
public import proofs.«01_k».proof.Proof.KLaunch
public import proofs.«01_k».proof.Proof.ILaunch
public import proofs.«01_k».proof.Proof.Ids
public import proofs.«01_k».proof.Proof.RefVal
public import proofs.«01_k».proof.Proof.IValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's frame. -/
theorem frame_kernel : Cert.quiescent_Kernel := fun m ρ hpre =>
  have hI := Cert.Kernel.Hand.ids_ok m 0 (Cert.Pre_ids_in_vocabulary.Hand.ids_lt _ _ _ _ _ _ (hpre 0)).1
    (Cert.Pre_ids_in_vocabulary.Hand.ids_lt _ _ _ _ _ _ (hpre 0)).2
  (θ_run Cert.Kernel.defs _ _).mono (fun _ h => ⟨fun c => (h.1 c).2, h.2⟩) (Cert.Kernel.Hand.run_all m ρ hI)

/-- The ids are in range, under the precondition. -/
theorem ids_ideal (m : (ℓ : Loc Cert.KernelIdeal.nD Cert.KernelIdeal.τ Cert.KernelIdeal.sig) → Buf (Elt Ideal) ℓ) (hpre : Cert.Pre_KernelIdeal m) :
    Cert.KernelIdeal.Hand.IdsOk (Cert.KernelIdeal.Hand.starts m) (Cert.KernelIdeal.Hand.stop m) :=
  Cert.KernelIdeal.Hand.ids_ok m 0 (Cert.Pre_ids_in_vocabulary.Hand.ids_lt _ _ _ _ _ _ (hpre 0)).1
    (Cert.Pre_ids_in_vocabulary.Hand.ids_lt _ _ _ _ _ _ (hpre 0)).2

/-- The idealized kernel's frame. -/
theorem frame_ideal : Cert.quiescent_KernelIdeal := fun m ρ hpre =>
  (θ_run Cert.KernelIdeal.defs _ _).mono (fun _ h => ⟨fun c => (h.1 c).2, h.2⟩) (Cert.KernelIdeal.Hand.run_all m ρ (ids_ideal m hpre))

/-- The reference's frame. -/
theorem frame_reference : Cert.quiescent_ReferenceIdeal := fun m ρ _ =>
  (θ_run Cert.ReferenceIdeal.defs _ _).mono (fun _ h => ⟨fun c => (h.1 c).2, h.2⟩) (Cert.ReferenceIdeal.Hand.run_res m ρ)

/-- The kernel's result over the extended reals is the reference's at the kernel's arguments. -/
theorem value_ideal (m : (ℓ : Loc Cert.KernelIdeal.nD Cert.KernelIdeal.τ Cert.KernelIdeal.sig) → Buf (Elt Ideal) ℓ) (hpre : Cert.Pre_KernelIdeal m)
    (c : Dev Cert.KernelIdeal.nD) :
    Cert.KernelIdeal.Hand.resV m c = Cert.ReferenceIdeal.Hand.res (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := by
  obtain ⟨hs, he⟩ := Cert.Pre_ids_in_vocabulary.Hand.ids_lt _ _ _ _ _ _ (hpre c)
  have key := Cert.KernelIdeal.Hand.resG_eq (Cert.KernelIdeal.Hand.sounds m c) (Cert.KernelIdeal.Hand.masks m c)
    (m ((c.tc : Thread Cert.KernelIdeal.nD Cert.KernelIdeal.τ).loc Cert.KernelIdeal.main_arg1)) (Cert.KernelIdeal.Hand.weights m c) (Cert.KernelIdeal.Hand.table m c)
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (Cert.KernelIdeal.Hand.masks_at m c) hs he
  unfold Cert.KernelIdeal.Hand.resV
  rw [Cert.KernelIdeal.Hand.starts_eq m c, Cert.KernelIdeal.Hand.stop_eq m c]
  exact key.trans (Cert.ReferenceIdeal.Hand.res_congr (Cert.KernelIdeal.Hand.V_arg0 m c) rfl rfl rfl (Cert.KernelIdeal.Hand.V_arg4 m c) (Cert.KernelIdeal.Hand.V_arg5 m c))

/-- The two programs agree over the extended reals. -/
theorem algebraic : Cert.algebraic_KernelIdeal_ReferenceIdeal := fun m g m' g' hpre hagree => by
  refine ⟨fun c => Cert.KernelIdeal.Hand.resV m c, ?_, ?_⟩
  · exact (θ_run Cert.KernelIdeal.defs _ _).mono (fun _ h => h.1) (Cert.KernelIdeal.Hand.run_all m g (ids_ideal m hpre))
  · refine (θ_run Cert.ReferenceIdeal.defs _ _).mono (fun _ h c => ⟨(h.1 c).1.trans ?_, (h.1 c).2⟩) (Cert.ReferenceIdeal.Hand.run_res m' g')
    obtain ⟨h0, h1, h2, h3, h4, h5⟩ := hagree c
    exact (Cert.ReferenceIdeal.Hand.res_congr h0 h1 h2 h3 h4 h5).trans (value_ideal m hpre c).symm

theorem claim : Cert.Claim := ⟨Cert.Kernel.Gen.facts, Cert.KernelIdeal.Gen.facts, Cert.ReferenceIdeal.Gen.facts, Cert.Pre_ids_in_vocabulary.Gen.facts,
  frame_kernel, frame_ideal, frame_reference, fun m ρ _ => frame_reference m ρ trivial, trivial, algebraic⟩

end Cert.Proof

end
